-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x20 : Shape := ⟨2, ![1024, 20]⟩
abbrev S1000x128 : Shape := ⟨2, ![1000, 128]⟩
abbrev S1000x2560 : Shape := ⟨2, ![1000, 2560]⟩
abbrev S1000 : Shape := ⟨1, ![1000]⟩
abbrev S_ : Shape := ⟨0, ![]⟩

class Facts : Prop where
  bcast_S_S1024x20 : S_.BroadcastsInDim S1024x20 (![] : Fin 0 → Fin S1024x20.rank)
  reducesTo_S1024x20_S_d0_1 : S1024x20.ReducesTo [0, 1] S_
  h_S_ : 0 < S_.numel

variable [Facts]

def fn {F : FTy → Type} [FloatOps F] (main_arg0 : IVec S1024x20 32) (main_arg1 : FVec F S1000x128 .f32) (main_arg2 : FVec F S1000x2560 .f32) (main_arg3 : FVec F S1000 .f32) : IVec S_ 1 :=
  let main_c : IVec S_ 32 := constantI S_ 32 0#32
  let main_v0 : IVec S1024x20 32 := broadcastInDim S1024x20 ![] bcast_S_S1024x20 main_c
  let main_v1 : IVec S1024x20 1 := cmpi .sge main_arg0 main_v0
  let main_c_0 : IVec S_ 32 := constantI S_ 32 1000#32
  let main_v2 : IVec S1024x20 32 := broadcastInDim S1024x20 ![] bcast_S_S1024x20 main_c_0
  let main_v3 : IVec S1024x20 1 := cmpi .slt main_arg0 main_v2
  let main_v4 : IVec S1024x20 1 := andi main_v1 main_v3
  let main_c_1 : IVec S_ 1 := constantI S_ 1 1#1
  let main_v5 : IVec S_ 1 := (fun x v => Host.reduce IntOp.andi x v reducesTo_S1024x20_S_d0_1 h_S_) main_v4 main_c_1
  main_v5
-- ==== Kernel.lean ====
abbrev S1024x20 : Shape := ⟨2, ![1024, 20]⟩
abbrev S1000x128 : Shape := ⟨2, ![1000, 128]⟩
abbrev S1000x2560 : Shape := ⟨2, ![1000, 2560]⟩
abbrev S1000 : Shape := ⟨1, ![1000]⟩
abbrev S20x1024 : Shape := ⟨2, ![20, 1024]⟩
abbrev S20480x128 : Shape := ⟨2, ![20480, 128]⟩
abbrev S640 : Shape := ⟨1, ![640]⟩
abbrev S640x128 : Shape := ⟨2, ![640, 128]⟩
abbrev S5 : Shape := ⟨1, ![5]⟩
abbrev S_ : Shape := ⟨0, ![]⟩
abbrev S128 : Shape := ⟨1, ![128]⟩
abbrev S1x128 : Shape := ⟨2, ![1, 128]⟩
abbrev S1 : Shape := ⟨1, ![1]⟩
abbrev S200x128 : Shape := ⟨2, ![200, 128]⟩
abbrev S128x128 : Shape := ⟨2, ![128, 128]⟩
abbrev S20x1024x128 : Shape := ⟨3, ![20, 1024, 128]⟩
abbrev S1000x1 : Shape := ⟨2, ![1000, 1]⟩
abbrev S1000x1024 : Shape := ⟨2, ![1000, 1024]⟩
abbrev S20x512x128 : Shape := ⟨3, ![20, 512, 128]⟩
abbrev S1000x512 : Shape := ⟨2, ![1000, 512]⟩
abbrev S1x512x128 : Shape := ⟨3, ![1, 512, 128]⟩
abbrev S512x128 : Shape := ⟨2, ![512, 128]⟩
abbrev S512x2560 : Shape := ⟨2, ![512, 2560]⟩
abbrev S1024x1000 : Shape := ⟨2, ![1024, 1000]⟩

abbrev nBuf : Table → Nat
  | .hbm => 10
  | .local .tc .vmem => 6
  | .shared => 1
  | .local .scVector .vmem => 2
  | _ => 0

abbrev bufTy : (tb : Table) → Fin (nBuf tb) → BufTy
  | .hbm, ⟨0, _⟩ => ⟨S1024x20, .i32⟩
  | .hbm, ⟨1, _⟩ => ⟨S1000x128, .f32⟩
  | .hbm, ⟨2, _⟩ => ⟨S1000x2560, .f32⟩
  | .hbm, ⟨3, _⟩ => ⟨S1000, .f32⟩
  | .hbm, ⟨4, _⟩ => ⟨S20x1024, .i32⟩
  | .hbm, ⟨5, _⟩ => ⟨S20480x128, .f32⟩
  | .hbm, ⟨6, _⟩ => ⟨S20x1024x128, .f32⟩
  | .hbm, ⟨7, _⟩ => ⟨S1000x1, .f32⟩
  | .hbm, ⟨8, _⟩ => ⟨S1000x1024, .f32⟩
  | .hbm, ⟨9, _⟩ => ⟨S1024x1000, .f32⟩
  | .local .tc .vmem, ⟨0, _⟩ => ⟨S20x512x128, .f32⟩
  | .local .tc .vmem, ⟨1, _⟩ => ⟨S20x512x128, .f32⟩
  | .local .tc .vmem, ⟨2, _⟩ => ⟨S1000x2560, .f32⟩
  | .local .tc .vmem, ⟨3, _⟩ => ⟨S1000x1, .f32⟩
  | .local .tc .vmem, ⟨4, _⟩ => ⟨S1000x512, .f32⟩
  | .local .tc .vmem, ⟨5, _⟩ => ⟨S1000x512, .f32⟩
  | .shared, ⟨0, _⟩ => ⟨S1000x128, .f32⟩
  | .local .scVector .vmem, ⟨0, _⟩ => ⟨S640, .i32⟩
  | .local .scVector .vmem, ⟨1, _⟩ => ⟨S640x128, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 5 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1_scv : Ref sig .scVector := ⟨.hbm, 1, rfl⟩
abbrev main_v0_scv : Ref sig .scVector := ⟨.hbm, 4, rfl⟩
abbrev main_v1_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32 : BitVec 32 := 5#32
  let v3 : BitVec 32 := Scalar.muli v1 c5_i32
  let v4 : BitVec 32 := Scalar.addi v3 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c8_i32 : BitVec 32 := 8#32
  let c0_i32_2 : BitVec 32 := 0#32
  let v11 : BitVec 1 := Scalar.cmpi .sgt c8_i32 c0_i32_2
  let v12 : BitVec 32 := Scalar.extui v11
  let c0_i32_3 : BitVec 32 := 0#32
  let v13 : BitVec 1 := Scalar.cmpi .slt c8_i32 c0_i32_3
  let v14 : BitVec 32 := Scalar.extui v13
  let v15 : BitVec 32 := Scalar.subi v12 v14
  let v16 : BitVec 1 := Scalar.cmpi .ne v10 v15
  let v17 : BitVec 32 := Scalar.remsi v4 c8_i32
  let c0_i32_4 : BitVec 32 := 0#32
  let v18 : BitVec 1 := Scalar.cmpi .ne v17 c0_i32_4
  let v19 : BitVec 1 := Scalar.andi v16 v18
  let v5 : BitVec 32 := Scalar.divsi v4 c8_i32
  let c1_i32 : BitVec 32 := 1#32
  let v20 : BitVec 32 := Scalar.subi v5 c1_i32
  let v21 : BitVec 32 := Scalar.select v19 v20 v5
  let c8_i32_5 : BitVec 32 := 8#32
  let c0_i32_6 : BitVec 32 := 0#32
  let v22 : BitVec 1 := Scalar.cmpi .eq c8_i32_5 c0_i32_6
  let c1_i32_7 : BitVec 32 := 1#32
  let v23 : BitVec 32 := Scalar.select v22 c1_i32_7 c8_i32_5
  let v24 : BitVec 32 := Scalar.remsi v4 v23
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let c0_i32_8 : BitVec 32 := 0#32
  let v25 : BitVec 1 := Scalar.cmpi .ne v24 c0_i32_8
  let v29 : BitVec 1 := Scalar.andi v28 v25
  let v30 : BitVec 32 := Scalar.addi v24 v23
  let v31 : BitVec 32 := Scalar.select v29 v30 v24
  let c128_i32 : BitVec 32 := 128#32
  let v32 : BitVec 32 := Scalar.muli v31 c128_i32
  ![v21.toNat, v32.toNat]
def k0_cond1 (i : grid0.Coords) : BitVec 1 :=
  let arg1 : BitVec 32 := BitVec.ofNat 32 (i 1).val
  let c5_i32_85 : BitVec 32 := 5#32
  let v193 : BitVec 1 := Scalar.cmpi .slt arg1 c5_i32_85
  let v194 : BitVec 32 := Scalar.extui v193
  let c0_i32_86 : BitVec 32 := 0#32
  let v195 : BitVec 1 := Scalar.cmpi .ne v194 c0_i32_86
  v195

def k0_off2 (i : grid0.Coords) : Fin 2 → Nat :=
  let arg1 : BitVec 32 := BitVec.ofNat 32 (i 1).val
  let c200_i32_227 : BitVec 32 := 200#32
  let v332 : BitVec 32 := Scalar.muli arg1 c200_i32_227
  let c0_i32_228_r0 : BitVec 32 := 0#32
  ![v332.toNat, 0]
def k0_off3 (i : grid0.Coords) (c0_i32_138 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let v266 : BitVec 32 := Scalar.addi v2 c0_i32_138
  let c0_i32_141 : BitVec 32 := 0#32
  ![v266.toNat, 0]
abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S20x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1000x2560 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x20 : Shape := ⟨2, ![1024, 20]⟩
abbrev S1000x128 : Shape := ⟨2, ![1000, 128]⟩
abbrev S1000x2560 : Shape := ⟨2, ![1000, 2560]⟩
abbrev S1000 : Shape := ⟨1, ![1000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x128 : Shape := ⟨3, ![1024, 20, 128]⟩
abbrev S1024x2560 : Shape := ⟨2, ![1024, 2560]⟩
abbrev S2560x1000 : Shape := ⟨2, ![2560, 1000]⟩
abbrev S1024x1000 : Shape := ⟨2, ![1024, 1000]⟩
abbrev S1x1000 : Shape := ⟨2, ![1, 1000]⟩

abbrev nBuf : Space → Nat
  | .hbm => 33
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S1000x128, .f32⟩
  | .hbm, ⟨2, _⟩ => ⟨S1000x2560, .f32⟩
  | .hbm, ⟨3, _⟩ => ⟨S1000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x128, .f32⟩
  | .hbm, ⟨23, _⟩ => ⟨S1024x20x128, .i1⟩
  | .hbm, ⟨24, _⟩ => ⟨S_, .f32⟩
  | .hbm, ⟨25, _⟩ => ⟨S1024x20x128, .f32⟩
  | .hbm, ⟨26, _⟩ => ⟨S1024x20x128, .f32⟩
  | .hbm, ⟨27, _⟩ => ⟨S1024x2560, .f32⟩
  | .hbm, ⟨28, _⟩ => ⟨S2560x1000, .f32⟩
  | .hbm, ⟨29, _⟩ => ⟨S1024x1000, .f32⟩
  | .hbm, ⟨30, _⟩ => ⟨S1x1000, .f32⟩
  | .hbm, ⟨31, _⟩ => ⟨S1024x1000, .f32⟩
  | .hbm, ⟨32, _⟩ => ⟨S1024x1000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩

abbrev nD : Nat := 1
abbrev τ : Topo := Topo.v7x

variable {F : FTy → Type} [FloatOps F]
-- ==== Proof.Setup.lean ====
/-
  What the proof of the gather call is stated over: the program as the launch theorem sees it, the resource algebra, the
  buffers and the pieces each task is given of them, the contents those pieces hold when the task is done, the barrier's
  schedule and what the call's handshakes carry.

  The 32 tasks (2 SparseCores of 16 tiles) each own 640 of the 20480 index positions, as five chunks of 128: chunk `k` of
  tile `i` of SparseCore `c` is chunk `(2 i + c) · 5 + k` of the whole. Tiles 0 to 4 of either SparseCore each stage 200
  rows of the table in the SparseCore's shared memory; after the barrier every tile gathers from all 1000 rows there.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Batch
public import Idealize.ShloMosaic.Lib.Pipeline.Kit
public import Idealize.ShloMosaic.Lib.Pipeline.RegionArrays
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and no task's scratch, and a tile's buffers are its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the TensorCore pipeline's, the transfers' counters -/

abbrev UH : Type := URounds (GSem nD τ sig) ℕ
abbrev UB : Type := URounds (GSem nD τ sig) ℕ
abbrev UR : Type := URounds (GSem nD τ sig) Unit
abbrev UU : Type := UH × (UB × (UR × Counters))

local notation "𝕄" => MT nD τ sig (HIx 1) (Elt F) ℕ UU ℕ

abbrev EH : Emb UH (MT nD τ sig (HIx 1) (Elt F) ℕ UU ℕ) := embL
/-- The barrier cells' component. -/
def EB : Emb UB (MT nD τ sig (HIx 1) (Elt F) ℕ UU ℕ) :=
  ((Emb.inl : Emb UB (UB × (UR × Counters))).trans (Emb.inr : Emb (UB × (UR × Counters)) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance
/-- The TensorCore pipeline's component. -/
def EP : Emb UR (MT nD τ sig (HIx 1) (Elt F) ℕ UU ℕ) :=
  (((Emb.inl : Emb UR (UR × Counters)).trans (Emb.inr : Emb (UR × Counters) (UB × (UR × Counters)))).trans
    (Emb.inr : Emb (UB × (UR × Counters)) UU)).trans
    (uEmb (nD := nD) (sig := sig) (Ix := HIx 1) (Val := Elt F) (Name := ℕ) (U := UU) (Lvl := ℕ)).toEmb
instance EP_landsIn : (EP : Emb UR 𝕄).LandsIn (upEmb : UEmb _ 𝕄) := by unfold EP; infer_instance

/-! ## The buffers -/

abbrev eLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1
/-- SparseCore `c`'s shared scratch, as every tile of it addresses it. -/
abbrev shRef (c : Fin τ.nSC) : DevRef τ sig := ⟨.shared, ⟨0, by decide⟩, c⟩
abbrev shLoc (d : Dev nD) (c : Fin τ.nSC) : Loc nD τ sig := (d, shRef c)

abbrev eM : Memref sig .scVector .hbm S1000x128 .f32 := Memref.whole main_arg1_scv
abbrev iM : Memref sig .scVector .hbm S20x1024 .i32 := Memref.whole main_v0_scv
abbrev oM : Memref sig .scVector .hbm S20480x128 .f32 := Memref.whole main_v1_scv
abbrev idxM : Memref sig .scVector .vmem S640 .i32 := Memref.whole cc0_scratch0
abbrev rowM : Memref sig .scVector .vmem S640x128 .f32 := Memref.whole cc0_scratch1
abbrev shM : Memref sig .scVector .shared S1000x128 .f32 := Memref.whole cc0_scratch2

abbrev cV (L : grid0.Coords) : Fin τ.nSC := (L 0).castLE hcore0
abbrev jV (L : grid0.Coords) : Fin τ.nSub := (L 1).castLE hsub0

/-! ## Indices of rank one and two from their coordinates -/

def ix1 {a : ℕ} (x : Fin a) : (⟨1, ![a]⟩ : Shape).Idx := fun | 0 => x
def ix2 {a b : ℕ} (x : Fin a) (y : Fin b) : (⟨2, ![a, b]⟩ : Shape).Idx := fun | 0 => x | 1 => y
@[simp] theorem ix1_zero {a : ℕ} (x : Fin a) : ix1 x 0 = x := rfl
@[simp] theorem ix2_zero {a b : ℕ} (x : Fin a) (y : Fin b) : ix2 x y 0 = x := rfl
@[simp] theorem ix2_one {a b : ℕ} (x : Fin a) (y : Fin b) : ix2 x y 1 = y := rfl
theorem eq_ix2 {a b : ℕ} (z : (⟨2, ![a, b]⟩ : Shape).Idx) (x : Fin a) (y : Fin b) (h₀ : (z 0).val = x.val) (h₁ : (z 1).val = y.val) :
    z = ix2 x y := by
  funext k
  match k with
  | 0 => exact Fin.ext h₀
  | 1 => exact Fin.ext h₁

/-! ## The pieces -/

/-- Chunk `k` of the task at `L`, among all 160. -/
abbrev ch (L : grid0.Coords) (k : ℕ) : ℕ := (2 * (L 1).val + (L 0).val) * 5 + k

/-- Chunk `t` of the transposed indices: a row of 1024 is eight chunks. -/
def iSet (t : ℕ) : Finset S20x1024.Idx := Finset.univ.filter fun x => (x 0).val * 8 + (x 1).val / 128 = t
/-- Chunk `t` of the gathered rows. -/
def oSet (t : ℕ) : Finset S20480x128.Idx := Finset.univ.filter fun x => (x 0).val / 128 = t
/-- Band `n` of the table: 200 rows. -/
def eSet (n : ℕ) : Finset S1000x128.Idx := Finset.univ.filter fun x => (x 0).val / 200 = n
/-- Chunk `k` of a tile's own index scratch, -/
def jSet (k : ℕ) : Finset S640.Idx := Finset.univ.filter fun x => (x 0).val / 128 = k
/-- and of its own row scratch. -/
def rSet (k : ℕ) : Finset S640x128.Idx := Finset.univ.filter fun x => (x 0).val / 128 = k

theorem mem_iSet {t : ℕ} {x : S20x1024.Idx} : x ∈ iSet t ↔ (x 0).val * 8 + (x 1).val / 128 = t := by simp [iSet]
theorem mem_oSet {t : ℕ} {x : S20480x128.Idx} : x ∈ oSet t ↔ (x 0).val / 128 = t := by simp [oSet]
theorem mem_eSet {t : ℕ} {x : S1000x128.Idx} : x ∈ eSet t ↔ (x 0).val / 200 = t := by simp [eSet]
theorem mem_jSet {t : ℕ} {x : S640.Idx} : x ∈ jSet t ↔ (x 0).val / 128 = t := by simp [jSet]
theorem mem_rSet {t : ℕ} {x : S640x128.Idx} : x ∈ rSet t ↔ (x 0).val / 128 = t := by simp [rSet]

/-- The index chunk's offsets in the transposed index array, in closed form. -/
theorem k0_off1_eq : ∀ i : grid0.Coords, ∀ r : Fin 5,
    k0_off1 i (BitVec.ofNat 32 r.val) = ![ch i r.val / 8, ch i r.val % 8 * 128] := by decide +kernel

theorem cond_iff : ∀ i : grid0.Coords, k0_cond1 i = 1#1 ↔ (i 1).val < 5 := by decide +kernel

/-! ## The windows the task's copies name -/

section Views
variable (L : grid0.Coords)

/-- An index chunk in HBM, at the offsets word `w` gives. -/
abbrev iW (w : BitVec 32) (h : ∀ a, k0_off1 L w a + S1x128.size a ≤ S20x1024.size a) : Memref sig .scVector .hbm S128 .i32 :=
  (iM.slice (Rect.unit (s := S20x1024) (k0_off1 L w) S1x128.size h) (fun _ => rfl)).squeeze S128 squeezes_S1x128_S128
/-- A chunk of the gathered rows in HBM. -/
abbrev oW (w : BitVec 32) (h : ∀ a, k0_off3 L w a + S128x128.size a ≤ S20480x128.size a) : Memref sig .scVector .hbm S128x128 .f32 :=
  oM.slice (Rect.unit (s := S20480x128) (k0_off3 L w) S128x128.size h) (fun _ => rfl)
/-- The task's band of the table in HBM, -/
abbrev eW (h : k0_cond1 L = 1#1) : Memref sig .scVector .hbm S200x128 .f32 :=
  eM.slice (Rect.unit (s := S1000x128) (k0_off2 L) S200x128.size (k0_off2_inb L h)) (fun _ => rfl)
/-- and in the shared scratch. -/
abbrev sW (h : k0_cond1 L = 1#1) : Memref sig .scVector .shared S200x128 .f32 :=
  shM.slice (Rect.unit (s := S1000x128) (k0_off2 L) S200x128.size (k0_off2_inb L h)) (fun _ => rfl)
/-- A chunk of the task's index scratch, -/
abbrev jW (o : ℕ) (h : ∀ a, (![o] : Fin 1 → ℕ) a + S128.size a ≤ S640.size a) : Memref sig .scVector .vmem S128 .i32 :=
  idxM.slice (Rect.unit (s := S640) ![o] S128.size h) (fun _ => rfl)
/-- of its row scratch, -/
abbrev rW (o : ℕ) (h : ∀ a, (![o, 0] : Fin 2 → ℕ) a + S128x128.size a ≤ S640x128.size a) : Memref sig .scVector .vmem S128x128 .f32 :=
  rowM.slice (Rect.unit (s := S640x128) ![o, 0] S128x128.size h) (fun _ => rfl)
/-- and the whole shared scratch, as the gathers name it. -/
abbrev gW : Memref sig .scVector .shared S1000x128 .f32 :=
  shM.slice (Rect.unit (s := S1000x128) ![0, 0] S1000x128.size inb_S1000x128_S1000x128_0_0) (fun _ => rfl)

theorem rows_rect (n w k o : ℕ) {off : Fin 2 → ℕ} (hoff : off = ![o, 0]) {size : Fin 2 → ℕ} (hsz : size = ![k, w])
    (inb : ∀ a, off a + size a ≤ (⟨2, ![n, w]⟩ : Shape).size a) (x : (⟨2, ![n, w]⟩ : Shape).Idx) :
    x ∈ (Rect.unit (s := ⟨2, ![n, w]⟩) off size inb).set ↔ o ≤ (x 0).val ∧ (x 0).val < o + k := by
  subst hoff hsz
  rw [Rect.mem_set_unit]
  constructor
  · intro h; exact h 0
  · intro h a
    match a with
    | ⟨0, _⟩ => exact h
    | ⟨1, _⟩ =>
      have := (x 1).isLt
      exact ⟨Nat.zero_le _, by show (x 1).val < 0 + w; rw [Nat.zero_add]; exact this⟩

theorem oW_set (r : Fin 5) (w : BitVec 32) (h) (hw : w = BitVec.ofNat 32 (128 * r.val)) : (oW L w h).view.set = oSet (ch L r.val) := by
  subst hw
  refine (View.set_slice_whole _ _).trans ?_
  ext x
  refine (rows_rect 20480 128 128 _ (k0_off3_eq L r) rfl h x).trans ?_
  rw [mem_oSet]
  simp only [ch]
  omega

theorem iW_set (r : Fin 5) (w : BitVec 32) (h) (hw : w = BitVec.ofNat 32 r.val) : (iW L w h).view.set = iSet (ch L r.val) := by
  subst hw
  refine (View.set_reshape _ _).trans ((View.set_slice_whole _ _).trans ?_)
  ext x
  refine (Rect.mem_set_unit (s := S20x1024)).trans ?_
  rw [mem_iSet, k0_off1_eq L r]
  have h0 : (x 0).val < 20 := (x 0).isLt
  have h1 : (x 1).val < 1024 := (x 1).isLt
  constructor
  · intro h
    have ha : ch L r.val / 8 ≤ (x 0).val ∧ (x 0).val < ch L r.val / 8 + 1 := h 0
    have hb : ch L r.val % 8 * 128 ≤ (x 1).val ∧ (x 1).val < ch L r.val % 8 * 128 + 128 := h 1
    omega
  · intro h a
    match a with
    | ⟨0, _⟩ => show ch L r.val / 8 ≤ (x 0).val ∧ (x 0).val < ch L r.val / 8 + 1; omega
    | ⟨1, _⟩ => show ch L r.val % 8 * 128 ≤ (x 1).val ∧ (x 1).val < ch L r.val % 8 * 128 + 128; omega

theorem eW_set (hc : k0_cond1 L = 1#1) : (eW L hc).view.set = eSet (L 1).val := by
  refine (View.set_slice_whole _ _).trans ?_
  ext x
  refine (rows_rect 1000 128 200 _ (k0_off2_eq L) rfl _ x).trans ?_
  rw [mem_eSet]
  omega

theorem sW_set (hc : k0_cond1 L = 1#1) : (sW L hc).view.set = eSet (L 1).val := by
  refine (View.set_slice_whole _ _).trans ?_
  ext x
  refine (rows_rect 1000 128 200 _ (k0_off2_eq L) rfl _ x).trans ?_
  rw [mem_eSet]
  omega

theorem gW_set : (gW).view.set = Finset.univ := by
  refine (View.set_slice_whole _ _).trans ?_
  ext x
  refine (rows_rect 1000 128 1000 0 rfl rfl _ x).trans ?_
  have h0 : (x 0).val < 1000 := (x 0).isLt
  simp only [Finset.mem_univ, iff_true]
  omega

theorem jW_set (r : Fin 5) (o : ℕ) (h) (ho : o = 128 * r.val) : (jW o h).view.set = jSet r.val := by
  subst ho
  refine (View.set_slice_whole _ _).trans ?_
  ext x
  refine (Rect.mem_set_unit (s := S640)).trans ?_
  rw [mem_jSet]
  constructor
  · intro h
    have ha : 128 * r.val ≤ (x 0).val ∧ (x 0).val < 128 * r.val + 128 := h 0
    omega
  · intro h a
    match a with
    | ⟨0, _⟩ => show 128 * r.val ≤ (x 0).val ∧ (x 0).val < 128 * r.val + 128; omega

theorem rW_set (r : Fin 5) (o : ℕ) (h) (ho : o = 128 * r.val) : (rW o h).view.set = rSet r.val := by
  subst ho
  refine (View.set_slice_whole _ _).trans ?_
  ext x
  refine (rows_rect 640 128 128 _ rfl rfl _ x).trans ?_
  rw [mem_rSet]
  omega

end Views

/-! ## The contents -/

section Contents
variable (iT : S20x1024.Idx → BitVec 32) (E : S1000x128.Idx → F .f32) (L : grid0.Coords)

/-- The table row an index word names. -/
def rowOf (w : BitVec 32) : Fin 1000 := ⟨w.toNat % 1000, Nat.mod_lt _ (by decide)⟩

/-- The index at position `p` of the flattened, transposed indices. -/
def idxAt (p : ℕ) : BitVec 32 := iT (ix2 ⟨p / 1024 % 20, Nat.mod_lt _ (by decide)⟩ ⟨p % 1024, Nat.mod_lt _ (by decide)⟩)

/-- The gathered rows: row `p` is the table's row at index `p`. -/
def gathered : S20480x128.Idx → F .f32 := fun z => E (ix2 (rowOf (idxAt iT (z 0).val)) (z 1))

/-- The task's index scratch once its five chunks have come in, -/
def tileIdx : S640.Idx → BitVec 32 := fun x => idxAt iT (ch L 0 * 128 + (x 0).val)
/-- and its row scratch once the gathers are done. -/
def tileRows : S640x128.Idx → F .f32 := fun y => E (ix2 (rowOf (idxAt iT (ch L 0 * 128 + (y 0).val))) (y 1))

theorem tileIdx_lt (hI : ∀ x, (iT x).toNat < 1000) (x : S640.Idx) : (tileIdx iT L x).toNat < 1000 := hI _

end Contents

/-! ## The barrier -/

/-- Tile `(c, j)`'s barrier semaphore of device `d`. -/
abbrev bcell (d : Dev nD) (c : Fin τ.nSC) (j : Fin τ.nSub) : GSem nD τ sig := (V d c j, .reg sc_bar0)

theorem bar_ne_go : (sc_bar0 : Sem sig) ≠ sc_go := by decide

def isBar (g : GSem nD τ sig) : Bool :=
  match g with
  | ((_, .scVector _ _), sm) => decide (sm = .reg sc_bar0)
  | _ => false

@[simp] theorem isBar_bcell (d : Dev nD) (c : Fin τ.nSC) (j : Fin τ.nSub) : isBar (bcell d c j) = true := by simp [isBar]

section Sched
variable (E : Dev nD → S1000x128.Idx → F .f32)

/-- Tile `j`'s reading share of a band of the shared scratch, holding the table's. -/
abbrev bandAt (d : Dev nD) (c : Fin τ.nSC) (j n : ℕ) : sProp 𝕄 :=
  shLoc d c ↦[eSet n]{Transfers.shareTokN fullShare j} (show Buf (Elt F) (shLoc d c) from E d)

/-- What tile `n`'s arrival at tile `j`'s cell hands over: a share of the band tile `n` staged, if it is one of the five
    that stage one. -/
def bPay (g : GSem nD τ sig) (n : ℕ) : sProp 𝕄 :=
  match g with
  | ((d, .scVector c j), _) => if n < 5 then bandAt E d c j.val n else iprop(emp)
  | _ => iprop(emp)

/-- The barrier cells' schedule: one round on each, a unit duty per tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay E g n
  amount_pos _ _ _ _ := Nat.one_pos

instance bRd_storable (g : GSem nD τ sig) (r n : ℕ) : BI.Storable (upEmb : UEmb _ 𝕄) ((bRd E).payload g r n) := by
  show BI.Storable upEmb (bPay E g n)
  unfold bPay
  rcases g with ⟨⟨d, _ | c | ⟨c, i⟩⟩, sm⟩ <;> dsimp only <;> (repeat' split) <;> infer_instance

theorem bRd_first (d : Dev nD) (c : Fin τ.nSC) (j : Fin τ.nSub) :
    (bRd E).duties (bcell d c j) 0 = (Finset.univ : Finset (Fin τ.nSub)).image Fin.val := by
  simp [bRd, isBar]
theorem bRd_after (g : GSem nD τ sig) (r : ℕ) (hr : 1 ≤ r) : (bRd E).duties g r = ∅ :=
  if_neg fun h => absurd h.2 (Nat.ne_of_gt hr)
theorem bRd_mem (d : Dev nD) (c : Fin τ.nSC) (j i : Fin τ.nSub) : i.val ∈ (bRd E).duties (bcell d c j) 0 := by
  rw [bRd_first]; exact Finset.mem_image_of_mem _ (Finset.mem_univ i)
theorem bRd_total (d : Dev nD) (c : Fin τ.nSC) (j : Fin τ.nSub) : 0 + grid0.bound 1 = (bRd E).expect (bcell d c j) 0 := by
  unfold Rounds.Schedule.expect; rw [bRd_first]
  show 0 + 16 = ∑ x ∈ (Finset.univ : Finset (Fin 16)).image Fin.val, 1
  rw [Finset.sum_const, Finset.card_image_of_injective _ Fin.val_injective]; rfl

/-- What a tile owes for the barrier: a unit on every tile's cell of its SparseCore. -/
def owesBar (d : Dev nD) (c : Fin τ.nSC) : CellTallies nD τ sig (HIx 1) := ∑ j : Fin (grid0.bound 1), tallyAt (bcell d c (j.castLE hsub0)) (some 0) 1

theorem owesBar_none (d : Dev nD) (c : Fin τ.nSC) (g : GSem nD τ sig) : owesBar d c g none = 0 := by
  unfold owesBar
  rw [Finset.sum_apply, Finsupp.finsetSum_apply]
  exact Finset.sum_eq_zero fun j _ => by rw [tallyAt_apply, if_neg (fun e => nomatch e.2)]

theorem owesBar_pos {d : Dev nD} {c : Fin τ.nSC} {g : GSem nD τ sig} {ι : HIx 1} (h : 0 < owesBar d c g ι) :
    ∃ j : Fin (grid0.bound 1), g = bcell d c (j.castLE hsub0) ∧ ι = some 0 := by
  unfold owesBar at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals a tile for the barrier: its SparseCore's cell invariants, its duty in every tile's round, that
    each cell has reached round 0, its own position there and the credit for its own round's sixteen units. -/
def bkit (d : Dev nD) (c : Fin τ.nSC) (i : Fin τ.nSub) : sProp 𝕄 :=
  iprop((∃ κ : GSem nD τ sig → ℕ, bigSep Finset.univ fun j : Fin (grid0.bound 1) =>
      cellInv EB (bRd E) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

end Sched

/-! ## What the handshakes carry -/

section Payloads
variable (iT : Dev nD → S20x1024.Idx → BitVec 32) (E : Dev nD → S1000x128.Idx → F .f32)

/-- The half of the table's share that SparseCore `c` reads by. -/
def eShare (c : ℕ) : PosShare TreeShare := if c = 0 then fullShare.left else fullShare.right

abbrev iPt (d : Dev nD) (t : ℕ) : sProp 𝕄 := iLoc d ↦[iSet t]{fullShare} (show Buf (Elt F) (iLoc d) from iT d)
abbrev oPt (d : Dev nD) (t : ℕ) (f : S20480x128.Idx → F .f32) : sProp 𝕄 := oLoc d ↦[oSet t]{fullShare} (show Buf (Elt F) (oLoc d) from f)
abbrev ePt (d : Dev nD) (c n : ℕ) : sProp 𝕄 := eLoc d ↦[eSet n]{eShare c} (show Buf (Elt F) (eLoc d) from E d)
abbrev sPt (d : Dev nD) (c : Fin τ.nSC) (n : ℕ) (q : PosShare TreeShare) (f : S1000x128.Idx → F .f32) : sProp 𝕄 :=
  shLoc d c ↦[eSet n]{q} (show Buf (Elt F) (shLoc d c) from f)

/-- The five chunks of the indices tile `i` of SparseCore `c` reads, -/
def iPts (d : Dev nD) (c i : ℕ) : sProp 𝕄 := bigSep Finset.univ fun k : Fin 5 => iPt iT d ((2 * i + c) * 5 + k.val)
/-- the five it writes, holding `f`, -/
def oPts (d : Dev nD) (c i : ℕ) (f : S20480x128.Idx → F .f32) : sProp 𝕄 := bigSep Finset.univ fun k : Fin 5 => oPt d ((2 * i + c) * 5 + k.val) f
/-- the band of the table it stages, if it stages one, -/
def ePts (d : Dev nD) (c i : ℕ) : sProp 𝕄 := if i < 5 then ePt E d c i else iprop(emp)
/-- and that band of the shared scratch: before, at whatever it holds; -/
def sGo (d : Dev nD) (c : Fin τ.nSC) (i : ℕ) : sProp 𝕄 := if i < 5 then iprop(∃ f, sPt d c i fullShare f) else iprop(emp)
/-- after, at the table's rows, less the sixteen tiles' reading shares. -/
def sTd (d : Dev nD) (c : Fin τ.nSC) (i : ℕ) : sProp 𝕄 := if i < 5 then sPt d c i (Transfers.shareDrop fullShare 16) (E d) else iprop(emp)
/-- Tile `j`'s reading share of the whole shared scratch. -/
abbrev sAll (d : Dev nD) (c : Fin τ.nSC) (j : ℕ) : sProp 𝕄 :=
  shLoc d c ↦{Transfers.shareTokN fullShare j} (show Buf (Elt F) (shLoc d c) from E d)

/-- What comes to a task from the TensorCore, and what goes back. -/
def goT (d : Dev nD) (c i : ℕ) : sProp 𝕄 := iprop(iPts iT d c i ∗ ePts E d c i ∗ ∃ f, oPts d c i f)
def tdT (d : Dev nD) (c i : ℕ) : sProp 𝕄 := iprop(iPts iT d c i ∗ ePts E d c i ∗ oPts d c i (gathered (iT d) (E d)))

set_option backward.proofsInPublic true in
/-- The call takes every task's pieces and brings them back, the output pieces gathered, with every task's barrier
    semaphore closed at zero; a task further takes its band of the shared scratch and returns its shares of it. -/
def P : (K (F := F)).Pay (nD := nD) (Val := Elt F) (Name := ℕ) (U := UU) where
  st := fun q d c => match q with | 0 => bigSep Finset.univ fun i : Fin 16 => goT iT E d c.val i.val
  dn := fun q d c => match q with
    | 0 => bigSep Finset.univ fun i : Fin 16 => iprop(tdT iT E d c.val i.val ∗ semVal (bcell d (coreOf c) ((K (F := F)).sub 0 i)) 0)
  go := fun q d c i => match q with | 0 => iprop(goT iT E d c.val i.val ∗ sGo d (coreOf c) i.val)
  td := fun q d c i => match q with
    | 0 => iprop((tdT iT E d c.val i.val ∗ semVal (bcell d (coreOf c) ((K (F := F)).sub 0 i)) 0)
        ∗ sTd E d (coreOf c) i.val ∗ sAll E d (coreOf c) i.val)
  x := fun _ thr => match thr with
    | (d, .scVector c i) => if c.val < 2 then bkit E d c i else iprop(emp)
    | _ => iprop(emp)
  ox := fun _ thr => match thr with
    | (d, .scVector c _) => if c.val < 2 then owesBar d c else 0
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      split at h
      · obtain ⟨j, rfl, rfl⟩ := owesBar_pos h
        rw [(K (F := F)).lev_V_reg d c (j.castLE hsub0) (show (sc_bar0 : Sem sig) ≠ (K (F := F)).go from bar_ne_go)]; exact ⟨le_rfl, by decide⟩
      · exact absurd h (lt_irrefl 0)
  ox_tc := fun _ _ => rfl
  ox_sc := fun _ _ _ h => absurd rfl h
  ox_vc := by
    intro q d c i h
    obtain rfl : q = 0 := Subsingleton.elim _ _
    dsimp only at h
    split at h
    · next hc => exact ⟨rfl, hc, i.isLt⟩
    · exact absurd rfl h

instance iPts_storable (d : Dev nD) (c i : ℕ) : BI.Storable (upEmb : UEmb _ 𝕄) (iPts iT d c i) := by unfold iPts; infer_instance
instance oPts_storable (d : Dev nD) (c i : ℕ) (f : S20480x128.Idx → F .f32) : BI.Storable (upEmb : UEmb _ 𝕄) (oPts d c i f) := by unfold oPts; infer_instance
instance ePts_storable (d : Dev nD) (c i : ℕ) : BI.Storable (upEmb : UEmb _ 𝕄) (ePts E d c i) := by unfold ePts; split <;> infer_instance
instance sGo_storable (d : Dev nD) (c : Fin τ.nSC) (i : ℕ) : BI.Storable (upEmb : UEmb _ 𝕄) (sGo (F := F) d c i) := by unfold sGo; split <;> infer_instance
instance sTd_storable (d : Dev nD) (c : Fin τ.nSC) (i : ℕ) : BI.Storable (upEmb : UEmb _ 𝕄) (sTd E d c i) := by unfold sTd; split <;> infer_instance
instance goT_storable (d : Dev nD) (c i : ℕ) : BI.Storable (upEmb : UEmb _ 𝕄) (goT iT E d c i) := by unfold goT; infer_instance
instance tdT_storable (d : Dev nD) (c i : ℕ) : BI.Storable (upEmb : UEmb _ 𝕄) (tdT iT E d c i) := by unfold tdT; infer_instance

instance P_storable : (P iT E).IsStorable where
  st q d c := match q with
    | 0 => (inferInstance : BI.Storable (upEmb : UEmb _ 𝕄) (bigSep Finset.univ fun i : Fin 16 => goT iT E d c.val i.val))
  dn q d c := match q with
    | 0 => (inferInstance : BI.Storable (upEmb : UEmb _ 𝕄)
      (bigSep Finset.univ fun i : Fin 16 => iprop(tdT iT E d c.val i.val ∗ semVal (bcell d (coreOf c) ((K (F := F)).sub 0 i)) 0)))
  go q d c i := match q with
    | 0 => (inferInstance : BI.Storable (upEmb : UEmb _ 𝕄) iprop(goT iT E d c.val i.val ∗ sGo d (coreOf c) i.val))
  td q d c i := match q with
    | 0 => (inferInstance : BI.Storable (upEmb : UEmb _ 𝕄)
      iprop((tdT iT E d c.val i.val ∗ semVal (bcell d (coreOf c) ((K (F := F)).sub 0 i)) 0)
        ∗ sTd E d (coreOf c) i.val ∗ sAll E d (coreOf c) i.val))

end Payloads

end Cert.Proof.Gather
-- ==== Proof.Views.lean ====
/-
  What the task's windows read and what its copies leave in them: each landed window holds, on its own elements, the
  contents the proof names (`tileIdx`, the table, `tileRows`, `gathered`).
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Contents that agree on a window -/

section Agree
variable {κ : Kind} {sp : Space} {s : Shape} {e : EltTy} {Val : EltTy → Type}

theorem agree_write (v : View sig κ sp s e) (f g : v.ty.Contents Val) (w : s.Idx → Val e) (h : v.read Val g = w) :
    ∀ z ∈ v.set, v.write Val f w Finset.univ z = g z := by
  intro z hz
  obtain ⟨x, -, rfl⟩ := Finset.mem_map.mp hz
  rw [View.write_emb_of_mem _ _ (Finset.mem_univ x), ← h, View.read_apply, cast_cast, cast_eq]

theorem agree_writes (v : View sig κ sp s e) (f g : v.ty.Contents Val) (w : s.Idx → Val e) (h : v.read Val g = w) :
    ∀ z ∈ v.set, v.writes Val f [⟨Rect.whole s, w⟩] z = g z := by
  rw [← View.write_univ_eq_writes_whole]
  exact agree_write v _ g w h

end Agree

section Reads
variable (L : grid0.Coords) (iT : S20x1024.Idx → BitVec 32) (E : S1000x128.Idx → F .f32)

theorem ch_bound (r : Fin 5) : ch L r.val < 160 := by
  have h0 : (L 0).val < 2 := (L 0).isLt
  have h1 : (L 1).val < 16 := (L 1).isLt
  have := r.isLt
  simp only [ch]; omega

theorem S128_eq (y : S128.Idx) : y = ix1 (a := 128) (y 0) := by
  funext k; match k with | 0 => rfl

/-- The squeezed row of 128 in its one-row rectangle: entry `y` is column `y`. -/
theorem squeeze_row (y : S128.Idx) : Shape.reshapeEquiv squeezes_S1x128_S128.numel_eq y = (ix2 (a := 1) (b := 128) 0 (y 0) : S1x128.Idx) := by
  refine Shape.reshapeEquiv_eq_of_rowMajor _ ?_
  rw [Shape.rowMajor_val_two, Shape.rowMajor_val_one]
  show 0 * 128 + (y 0).val = (y 0).val
  omega

theorem iW_emb (r : Fin 5) (w : BitVec 32) (h) (hw : w = BitVec.ofNat 32 r.val) (y : S128.Idx) :
    (iW L w h).view.emb y = ix2 (a := 20) (b := 1024) ⟨(ch L r.val * 128 + (y 0).val) / 1024 % 20, Nat.mod_lt _ (by decide)⟩
      ⟨(ch L r.val * 128 + (y 0).val) % 1024, Nat.mod_lt _ (by decide)⟩ := by
  subst hw
  have e : (iW L (BitVec.ofNat 32 r.val) h).view.emb y
      = (Rect.unit (s := S20x1024) (k0_off1 L (BitVec.ofNat 32 r.val)) S1x128.size h).emb (ix2 (a := 1) (b := 128) 0 (y 0) : S1x128.Idx) :=
    congrArg (Rect.unit (s := S20x1024) (k0_off1 L (BitVec.ofNat 32 r.val)) S1x128.size h).emb (squeeze_row y)
  have hy : (y 0).val < 128 := (y 0).isLt
  have hb := ch_bound L r
  rw [e]
  refine eq_ix2 _ _ _ ?_ ?_
  · refine (Rect.emb_apply _ _ _).trans ?_
    show k0_off1 L (BitVec.ofNat 32 r.val) 0 + 1 * 0 = _
    rw [k0_off1_eq L r]
    show ch L r.val / 8 + 1 * 0 = _
    simp only
    omega
  · refine (Rect.emb_apply _ _ _).trans ?_
    show k0_off1 L (BitVec.ofNat 32 r.val) 1 + 1 * (y 0).val = _
    rw [k0_off1_eq L r]
    show ch L r.val % 8 * 128 + 1 * (y 0).val = _
    simp only
    omega

theorem iW_read (r : Fin 5) (w : BitVec 32) (h) (hw : w = BitVec.ofNat 32 r.val) (y : S128.Idx) :
    (iW L w h).view.read (Elt F) (show S20x1024.Idx → Elt F .i32 from iT) y = idxAt iT (ch L r.val * 128 + (y 0).val) := by
  show iT ((iW L w h).view.emb y) = _
  rw [iW_emb L r w h hw]; rfl

theorem jW_read (r : Fin 5) (o : ℕ) (h) (ho : o = 128 * r.val) (y : S128.Idx) :
    (jW o h).view.read (Elt F) (show S640.Idx → Elt F .i32 from tileIdx iT L) y = idxAt iT (ch L r.val * 128 + (y 0).val) := by
  subst ho
  show idxAt iT (ch L 0 * 128 + (128 * r.val + 1 * (y 0).val)) = _
  congr 1
  simp only [ch]; omega

/-- An index chunk copied in leaves the task's index scratch, there, at `tileIdx`. -/
theorem jW_read_eq (r : Fin 5) (o : ℕ) (h) (ho : o = 128 * r.val) (w : BitVec 32) (h') (hw : w = BitVec.ofNat 32 r.val) :
    (jW o h).view.read (Elt F) (show S640.Idx → Elt F .i32 from tileIdx iT L)
      = (iW L w h').view.read (Elt F) (show S20x1024.Idx → Elt F .i32 from iT) :=
  funext fun y => (jW_read L iT r o h ho y).trans (iW_read L iT r w h' hw y).symm

/-- The list a gather reads is in range. -/
theorem list_inb (hI : ∀ x, (iT x).toNat < 1000) (r : Fin 5) (o : ℕ) (h) (ho : o = 128 * r.val) :
    ∀ x, ((jW o h).view.read (Elt F) (show S640.Idx → Elt F .i32 from tileIdx iT L) x).toNat < S1000x128.size gathers_S1000x128_S128x128.axis := by
  intro x
  have e := jW_read (F := F) L iT r o h ho x
  show BitVec.toNat ((jW o h).view.read (Elt F) (show S640.Idx → Elt F .i32 from tileIdx iT L) x : BitVec 32) < 1000
  rw [e]; exact hI _

theorem rW_read (r : Fin 5) (o : ℕ) (h) (ho : o = 128 * r.val) (y : S128x128.Idx) :
    (rW o h).view.read (Elt F) (show S640x128.Idx → Elt F .f32 from tileRows iT E L) y
      = E (ix2 (rowOf (idxAt iT (ch L r.val * 128 + (y 0).val))) (y 1)) := by
  subst ho
  show E (ix2 (rowOf (idxAt iT (ch L 0 * 128 + (128 * r.val + 1 * (y 0).val)))) _) = _
  congr 2
  · congr 2; simp only [ch]; omega
  · exact Fin.ext (by show 0 + 1 * (y 1).val = (y 1).val; omega)

theorem oW_read (r : Fin 5) (w : BitVec 32) (h) (hw : w = BitVec.ofNat 32 (128 * r.val)) (y : S128x128.Idx) :
    (oW L w h).view.read (Elt F) (show S20480x128.Idx → Elt F .f32 from gathered iT E) y
      = E (ix2 (rowOf (idxAt iT (ch L r.val * 128 + (y 0).val))) (y 1)) := by
  subst hw
  have e0 : ((oW L (BitVec.ofNat 32 (128 * r.val)) h).view.emb y 0).val = ch L r.val * 128 + (y 0).val := by
    show k0_off3 L (BitVec.ofNat 32 (128 * r.val)) 0 + 1 * (y 0).val = _
    rw [k0_off3_eq L r]
    show 1280 * (L 1).val + 640 * (L 0).val + 128 * r.val + 1 * (y 0).val = _
    simp only [ch]; omega
  have e1 : (oW L (BitVec.ofNat 32 (128 * r.val)) h).view.emb y 1 = y 1 := by
    refine Fin.ext ?_
    show k0_off3 L (BitVec.ofNat 32 (128 * r.val)) 1 + 1 * (y 1).val = _
    rw [k0_off3_eq L r]
    show 0 + 1 * (y 1).val = _
    omega
  show E (ix2 (rowOf (idxAt iT ((oW L (BitVec.ofNat 32 (128 * r.val)) h).view.emb y 0).val)) ((oW L (BitVec.ofNat 32 (128 * r.val)) h).view.emb y 1)) = _
  rw [e0, e1]

/-- A chunk of rows copied out leaves the output, there, at `gathered`. -/
theorem oW_read_eq (r : Fin 5) (o : ℕ) (h) (ho : o = 128 * r.val) (w : BitVec 32) (h') (hw : w = BitVec.ofNat 32 (128 * r.val)) :
    (oW L w h').view.read (Elt F) (show S20480x128.Idx → Elt F .f32 from gathered iT E)
      = (rW o h).view.read (Elt F) (show S640x128.Idx → Elt F .f32 from tileRows iT E L) :=
  funext fun y => (oW_read L iT E r w h' hw y).trans (rW_read L iT E r o h ho y).symm

theorem gW_read (z : S1000x128.Idx) : (gW).view.read (Elt F) (show S1000x128.Idx → Elt F .f32 from E) z = E z := by
  show E ((gW).view.emb z) = E z
  congr 1
  funext a
  refine Fin.ext ?_
  match a with
  | 0 => show 0 + 1 * (z 0).val = _; omega
  | 1 => show 0 + 1 * (z 1).val = _; omega

/-- A gather's payload is the task's rows, there. -/
theorem gather_read_eq (hI : ∀ x, (iT x).toNat < 1000) (r : Fin 5) (o : ℕ) (h) (h') (ho : o = 128 * r.val) (hn)
    (hin : ∀ x, ((jW o h).view.read (Elt F) (show S640.Idx → Elt F .i32 from tileIdx iT L) x).toNat < S1000x128.size gathers_S1000x128_S128x128.axis) :
    (rW o h').view.read (Elt F) (show S640x128.Idx → Elt F .f32 from tileRows iT E L)
      = SparseCore.gatherPayload gathers_S1000x128_S128x128 ((gW).view.read (Elt F) (show S1000x128.Idx → Elt F .f32 from E))
          (SparseCore.rows ((jW o h).view.read (Elt F) (show S640.Idx → Elt F .i32 from tileIdx iT L)) hn hin) := by
  funext y
  rw [rW_read L iT E r o h' ho]
  unfold SparseCore.gatherPayload
  rw [gW_read]
  congr 1
  symm
  refine eq_ix2 _ _ _ ?_ ?_
  · have e := Shape.Gathers.idx_axis gathers_S1000x128_S128x128
      (SparseCore.rows ((jW o h).view.read (Elt F) (show S640.Idx → Elt F .i32 from tileIdx iT L)) hn hin) y
    refine (congrArg Fin.val e).trans ?_
    show BitVec.toNat ((jW o h).view.read (Elt F) (show S640.Idx → Elt F .i32 from tileIdx iT L) (S128.rowMajor.symm ((y 0).cast hn.symm)) : BitVec 32) = _
    have e' : S128.rowMajor.symm ((y 0).cast hn.symm) = ix1 (a := 128) (y 0) := by
      rw [Equiv.symm_apply_eq]
      refine Fin.ext ?_
      rw [Shape.rowMajor_val_one]; rfl
    rw [e', jW_read (F := F) L iT r o h ho]
    exact (Nat.mod_eq_of_lt (hI _)).symm
  · exact Shape.Gathers.idx_of_ne gathers_S1000x128_S128x128 _ y 1 (by decide)

end Reads

end Cert.Proof.Gather
-- ==== Proof.Pieces.lean ====
/-
  The gather call's task at a symbolic SparseCore and tile: the
  pieces of its operands and scratch the run is stated over, the staging of a band of the table, what the barrier carries.
-/
module

public import proofs.«01_k».proof.Proof.Views

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Small separating conjunctions, written out -/

theorem bigSep_five (Φ : Fin 5 → sProp 𝕄) : bigSep Finset.univ Φ = iprop(Φ 0 ∗ Φ 1 ∗ Φ 2 ∗ Φ 3 ∗ Φ 4) := by
  rw [show (Finset.univ : Finset (Fin 5)) = insert 0 (insert 1 (insert 2 (insert 3 {4}))) from by decide,
    SparseCore.bigSep_insert' (by decide), SparseCore.bigSep_insert' (by decide), SparseCore.bigSep_insert' (by decide),
    SparseCore.bigSep_insert' (by decide), bigSep_singleton]

theorem bigSep_twelve (Φ : Fin 12 → sProp 𝕄) : bigSep Finset.univ Φ
    = iprop((Φ 0 ∗ Φ 1 ∗ Φ 2 ∗ Φ 3 ∗ Φ 4) ∗ (Φ 5 ∗ Φ 6 ∗ Φ 7 ∗ Φ 8 ∗ Φ 9) ∗ Φ 10 ∗ Φ 11) := by
  rw [show (Finset.univ : Finset (Fin 12)) = insert 0 (insert 1 (insert 2 (insert 3 (insert 4 (insert 5 (insert 6 (insert 7 (insert 8 (insert 9 (insert 10 {11})))))))))) from by decide,
    SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  have h (P Q R : sProp 𝕄) : iprop((P ∗ Q) ∗ R) = iprop(P ∗ Q ∗ R) := equiv_iff.mp ⟨BI.sep_assoc, BI.sep_assoc'⟩
  simp only [h]

/-! ## A tile's own scratch -/

section Own
variable (d : Dev nD) (L : grid0.Coords)

/-- The `n`-th DMA semaphore of the tile. -/
abbrev dcell (d : Dev nD) (c : Fin τ.nSC) (j : Fin τ.nSub) (n : Fin 12) : GSem nD τ sig := (V d c j, .dma (n.castLE (by decide) : Fin 18))

theorem dcell_injective (c : Fin τ.nSC) (j : Fin τ.nSub) : Function.Injective (dcell d c j) := by
  intro a b h
  have h2 : (SemLoc.dma (sig := sig) (a.castLE (by decide) : Fin 18)) = .dma (b.castLE (by decide) : Fin 18) := congrArg Prod.snd h
  injection h2 with h3
  exact Fin.castLE_injective _ h3

theorem dcell_own (c : Fin τ.nSC) (j : Fin τ.nSub) (n : Fin 12) : dcell d c j n ∈ ownCells (V d c j) :=
  mem_ownCells.mpr ⟨rfl, by
    show (SemLoc.dma (n.castLE (by decide) : Fin 18) : SemLoc sig).isScoped .scVector = true
    revert n; decide⟩

theorem ownSems0_V (c : Fin τ.nSC) (j : Fin τ.nSub) :
    (ownSems0 (V d c j) : sProp 𝕄)
      = iprop((bigSep Finset.univ fun n : Fin 12 => semVal (dcell d c j n) 0)
          ∗ bigSep (ownCells (V d c j) \ Finset.univ.image (dcell d c j)) fun g => semVal g 0) := by
  unfold SparseCore.Cfg.ownSems0
  rw [SparseCore.bigSep_sdiff_split' (show Finset.univ.image (dcell d c j) ⊆ ownCells (V d c j) from
      Finset.image_subset_iff.mpr fun n _ => dcell_own d c j n),
    bigSep_image_of_injOn (fun a _ b _ h => dcell_injective d c j h)]

/-- The tile's two scratch buffers, at some contents, and its others. -/
theorem ownBufs_V (c : Fin τ.nSC) (j : Fin τ.nSub) :
    (ownBufs (V d c j) : sProp 𝕄)
      = iprop((∃ f, (V d c j).loc cc0_scratch0 ↦{fullShare} f) ∗ (∃ f, (V d c j).loc cc0_scratch1 ↦{fullShare} f)
          ∗ bigSep (((ownRefs (τ := τ) (.scVector c j)).erase ((Proc.scVector c j).devRef cc0_scratch0)).erase ((Proc.scVector c j).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c j)
    (b := (Proc.scVector c j).devRef cc0_scratch0) rfl)).trans (congrArg _ ?_)
  exact SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c j) (b := (Proc.scVector c j).devRef cc0_scratch1) rfl⟩)

/-- The list scratch is its five chunks. -/
theorem idx_chunks (c : Fin τ.nSC) (j : Fin τ.nSub) (f : Buf (Elt F) ((V d c j).loc cc0_scratch0)) :
    ((V d c j).loc cc0_scratch0 ↦{fullShare} f : sProp 𝕄) = bigSep Finset.univ fun k : Fin 5 => (V d c j).loc cc0_scratch0 ↦[jSet k.val]{fullShare} f := by
  have hU : (Finset.univ : Finset S640.Idx) = Finset.univ.biUnion fun k : Fin 5 => jSet k.val := Finset.ext fun x => by
    have hx : (x 0).val < 640 := (x 0).isLt
    exact iff_of_true (Finset.mem_univ _) (Finset.mem_biUnion.mpr ⟨⟨(x 0).val / 128, by omega⟩, Finset.mem_univ _, mem_jSet.mpr rfl⟩)
  exact (congrArg (fun s : Finset S640.Idx => ((V d c j).loc cc0_scratch0 ↦[s]{fullShare} f : sProp 𝕄)) hU).trans
    (pointsTo_biUnion Finset.univ (ℓ := (V d c j).loc cc0_scratch0) (fun k : Fin 5 => jSet k.val) (fun k _ k' _ h => by
      rw [Finset.disjoint_left]; intro x hx hx'
      exact h (Fin.ext ((mem_jSet.mp hx).symm.trans (mem_jSet.mp hx')))))

/-- The row scratch is its five chunks. -/
theorem row_chunks (c : Fin τ.nSC) (j : Fin τ.nSub) (f : Buf (Elt F) ((V d c j).loc cc0_scratch1)) :
    ((V d c j).loc cc0_scratch1 ↦{fullShare} f : sProp 𝕄) = bigSep Finset.univ fun k : Fin 5 => (V d c j).loc cc0_scratch1 ↦[rSet k.val]{fullShare} f := by
  have hU : (Finset.univ : Finset S640x128.Idx) = Finset.univ.biUnion fun k : Fin 5 => rSet k.val := Finset.ext fun x => by
    have hx : (x 0).val < 640 := (x 0).isLt
    exact iff_of_true (Finset.mem_univ _) (Finset.mem_biUnion.mpr ⟨⟨(x 0).val / 128, by omega⟩, Finset.mem_univ _, mem_rSet.mpr rfl⟩)
  exact (congrArg (fun s : Finset S640x128.Idx => ((V d c j).loc cc0_scratch1 ↦[s]{fullShare} f : sProp 𝕄)) hU).trans
    (pointsTo_biUnion Finset.univ (ℓ := (V d c j).loc cc0_scratch1) (fun k : Fin 5 => rSet k.val) (fun k _ k' _ h => by
      rw [Finset.disjoint_left]; intro x hx hx'
      exact h (Fin.ext ((mem_rSet.mp hx).symm.trans (mem_rSet.mp hx')))))

/-- The shared scratch is its five bands, at any share. -/
theorem sh_bands (c : Fin τ.nSC) (q : PosShare TreeShare) (f : Buf (Elt F) (shLoc d c)) :
    (shLoc d c ↦{q} f : sProp 𝕄) = bigSep Finset.univ fun k : Fin 5 => shLoc d c ↦[eSet k.val]{q} f := by
  have hU : (Finset.univ : Finset S1000x128.Idx) = Finset.univ.biUnion fun k : Fin 5 => eSet k.val := Finset.ext fun x => by
    have hx : (x 0).val < 1000 := (x 0).isLt
    exact iff_of_true (Finset.mem_univ _) (Finset.mem_biUnion.mpr ⟨⟨(x 0).val / 200, by omega⟩, Finset.mem_univ _, mem_eSet.mpr rfl⟩)
  exact (congrArg (fun s : Finset S1000x128.Idx => (shLoc d c ↦[s]{q} f : sProp 𝕄)) hU).trans
    (pointsTo_biUnion Finset.univ (ℓ := shLoc d c) (fun k : Fin 5 => eSet k.val) (fun k _ k' _ h => by
      rw [Finset.disjoint_left]; intro x hx hx'
      exact h (Fin.ext ((mem_eSet.mp hx).symm.trans (mem_eSet.mp hx')))))

end Own

/-! ## What the barrier carries -/

section Barrier
variable (E : Dev nD → S1000x128.Idx → F .f32) (d : Dev nD) (L : grid0.Coords)

/-- The band a tile stages, staged. -/
def sWr (d : Dev nD) (c : Fin τ.nSC) (i : ℕ) : sProp 𝕄 := if i < 5 then sPt d c i fullShare (E d) else iprop(emp)

/-- Before the barrier: the staged band is a reading share for every tile's round, and what is left of it. -/
theorem pays_intro (c : Fin τ.nSC) (i : Fin τ.nSub) : sWr E d c i.val
    ⊢ iprop(sTd E d c i.val ∗ bigSep Finset.univ fun j : Fin (grid0.bound 1) => (bRd E).payload (bcell d c (j.castLE hsub0)) 0 i.val) := by
  have hp : ∀ j : Fin (grid0.bound 1), (bRd E).payload (bcell d c (j.castLE hsub0)) 0 i.val
      = if i.val < 5 then bandAt E d c j.val i.val else iprop(emp) := fun j => rfl
  simp only [hp]
  unfold sWr sTd
  by_cases h : i.val < 5
  · simp only [if_pos h]
    exact Transfers.pointsTo_toks_split fullShare 16
  · simp only [if_neg h]
    iintro -
    isplitl
    · iempintro
    · iapply (Entails.of_eq (bigSep_emp_const _).symm); iempintro

/-- After it: the tile's own round has collected its reading share of every band. -/
theorem pays_elim (c : Fin τ.nSC) (j : Fin τ.nSub) :
    (bigSep ((bRd E).duties (bcell d c j) 0 \ ∅) fun n => (bRd E).payload (bcell d c j) 0 n) ⊢ sAll E d c j.val := by
  unfold sAll
  rw [Finset.sdiff_empty, bRd_first, sh_bands, SparseCore.bigSep_image_of_injOn (fun a _ b _ h => Fin.ext h),
    show (fun i : Fin τ.nSub => (bRd E).payload (bcell d c j) 0 i.val) = fun i : Fin τ.nSub => if i.val < 5 then bandAt E d c j.val i.val else iprop(emp) from rfl,
    SparseCore.bigSep_sdiff_split' (Finset.subset_univ ((Finset.univ : Finset (Fin 5)).image fun k => (k.castLE (by decide) : Fin τ.nSub))),
    SparseCore.bigSep_image_of_injOn (f := fun k : Fin 5 => (k.castLE (by decide) : Fin τ.nSub)) (fun a _ b _ h => Fin.castLE_injective _ h)]
  iintro ⟨H, -⟩
  iapply (Entails.of_eq (bigSep_congr fun (k : Fin 5) _ => show (if (k.castLE (by decide) : Fin τ.nSub).val < 5 then bandAt E d c j.val (k.castLE (by decide) : Fin τ.nSub).val else iprop(emp))
    = (bandAt E d c j.val k.val : sProp 𝕄) from if_pos k.isLt))
  iexact H

end Barrier

end Cert.Proof.Gather
-- ==== Proof.Rules.lean ====
/-
  What each kind of the task's operations does to the pieces the run is stated over, at a symbolic SparseCore, tile and
  chunk: an index copy and its wait, the staging of a band, a gather and its wait, a write-out and its wait.
-/
module

public import proofs.«01_k».proof.Proof.Pieces

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The pieces -/

section Pieces
variable (d : Dev nD) (L : grid0.Coords)

/-- The task's thread. -/
abbrev thr : Thread nD τ := V d (cV L) (jV L)
/-- Chunk `r` of the index scratch, -/
abbrev jPt (r : ℕ) (f : S640.Idx → BitVec 32) : sProp 𝕄 := (thr d L).loc cc0_scratch0 ↦[jSet r]{fullShare} (show Buf (Elt F) ((thr d L).loc cc0_scratch0) from f)
/-- of the row scratch. -/
abbrev rPt (r : ℕ) (f : S640x128.Idx → F .f32) : sProp 𝕄 := (thr d L).loc cc0_scratch1 ↦[rSet r]{fullShare} (show Buf (Elt F) ((thr d L).loc cc0_scratch1) from f)
/-- The whole shared scratch at a reading share. -/
abbrev gPt (E : Dev nD → S1000x128.Idx → F .f32) (q : PosShare TreeShare) : sProp 𝕄 := shLoc d (cV L) ↦{q} (show Buf (Elt F) (shLoc d (cV L)) from E d)

theorem pts_iW (iT : S20x1024.Idx → BitVec 32) (r : Fin 5) (w : BitVec 32) (h) (hw : w = BitVec.ofNat 32 r.val) :
    ((iW L w h).view.loc (thr d L) ↦[(iW L w h).view.set]{fullShare} (show Buf (Elt F) ((iW L w h).view.loc (thr d L)) from iT) : sProp 𝕄)
      = (iLoc d ↦[iSet (ch L r.val)]{fullShare} (show Buf (Elt F) (iLoc d) from iT)) :=
  congrArg (fun s : Finset S20x1024.Idx => (iLoc d ↦[s]{fullShare} (show Buf (Elt F) (iLoc d) from iT) : sProp 𝕄)) (iW_set L r w h hw)

theorem pts_oW (f : S20480x128.Idx → F .f32) (r : Fin 5) (w : BitVec 32) (h) (hw : w = BitVec.ofNat 32 (128 * r.val)) :
    ((oW L w h).view.loc (thr d L) ↦[(oW L w h).view.set]{fullShare} (show Buf (Elt F) ((oW L w h).view.loc (thr d L)) from f) : sProp 𝕄)
      = oPt d (ch L r.val) f :=
  congrArg (fun s : Finset S20480x128.Idx => (oLoc d ↦[s]{fullShare} (show Buf (Elt F) (oLoc d) from f) : sProp 𝕄)) (oW_set L r w h hw)

theorem pts_jW (f : S640.Idx → BitVec 32) (r : Fin 5) (o : ℕ) (h) (ho : o = 128 * r.val) :
    ((jW o h).view.loc (thr d L) ↦[(jW o h).view.set]{fullShare} (show Buf (Elt F) ((jW o h).view.loc (thr d L)) from f) : sProp 𝕄)
      = jPt d L r.val f :=
  congrArg (fun s : Finset S640.Idx => ((thr d L).loc cc0_scratch0 ↦[s]{fullShare} (show Buf (Elt F) ((thr d L).loc cc0_scratch0) from f) : sProp 𝕄)) (jW_set r o h ho)

theorem pts_rW (f : S640x128.Idx → F .f32) (r : Fin 5) (o : ℕ) (h) (ho : o = 128 * r.val) :
    ((rW o h).view.loc (thr d L) ↦[(rW o h).view.set]{fullShare} (show Buf (Elt F) ((rW o h).view.loc (thr d L)) from f) : sProp 𝕄)
      = rPt d L r.val f :=
  congrArg (fun s : Finset S640x128.Idx => ((thr d L).loc cc0_scratch1 ↦[s]{fullShare} (show Buf (Elt F) ((thr d L).loc cc0_scratch1) from f) : sProp 𝕄)) (rW_set r o h ho)

theorem pts_gW (q : PosShare TreeShare) (f : S1000x128.Idx → F .f32) :
    ((gW).view.loc (thr d L) ↦[(gW).view.set]{q} (show Buf (Elt F) ((gW).view.loc (thr d L)) from f) : sProp 𝕄)
      = (shLoc d (cV L) ↦{q} (show Buf (Elt F) (shLoc d (cV L)) from f)) :=
  congrArg (fun s : Finset S1000x128.Idx => (shLoc d (cV L) ↦[s]{q} (show Buf (Elt F) (shLoc d (cV L)) from f) : sProp 𝕄)) gW_set

theorem pts_eW (q : PosShare TreeShare) (f : S1000x128.Idx → F .f32) (hc : k0_cond1 L = 1#1) :
    ((eW L hc).view.loc (thr d L) ↦[(eW L hc).view.set]{q} (show Buf (Elt F) ((eW L hc).view.loc (thr d L)) from f) : sProp 𝕄)
      = (eLoc d ↦[eSet (L 1).val]{q} (show Buf (Elt F) (eLoc d) from f)) :=
  congrArg (fun s : Finset S1000x128.Idx => (eLoc d ↦[s]{q} (show Buf (Elt F) (eLoc d) from f) : sProp 𝕄)) (eW_set L hc)

theorem pts_sW (q : PosShare TreeShare) (f : S1000x128.Idx → F .f32) (hc : k0_cond1 L = 1#1) :
    ((sW L hc).view.loc (thr d L) ↦[(sW L hc).view.set]{q} (show Buf (Elt F) ((sW L hc).view.loc (thr d L)) from f) : sProp 𝕄)
      = (shLoc d (cV L) ↦[eSet (L 1).val]{q} (show Buf (Elt F) (shLoc d (cV L)) from f)) :=
  congrArg (fun s : Finset S1000x128.Idx => (shLoc d (cV L) ↦[s]{q} (show Buf (Elt F) (shLoc d (cV L)) from f) : sProp 𝕄)) (sW_set L hc)

/-- The task owes `O`, its recorded waits those it came with and ones at the barrier's level or the copies'. -/
def owesN (O : CellTallies nD τ sig (HIx 1)) (W : Waits sig (HIx 1)) : sProp 𝕄 :=
  iprop(∃ W', ⌜∀ p ∈ W', p ∈ W ∨ p.2 = none ∨ p.2 = some (0 : Fin 1)⌝ ∗ owes (thr d L) O W')

theorem owesN_intro (O : CellTallies nD τ sig (HIx 1)) (W : Waits sig (HIx 1)) : (owes (thr d L) O W : sProp 𝕄) ⊢ owesN d L O W := by
  iintro H
  unfold owesN
  iexists W
  isplitr
  · ipureintro; exact fun p hp => .inl hp
  · iexact H

theorem owesN_elim (O : CellTallies nD τ sig (HIx 1)) (W : Waits sig (HIx 1)) :
    (owesN d L O W : sProp 𝕄) ⊢ ∃ W', ⌜∀ p ∈ W', p ∈ W ∨ p.2 = none ∨ p.2 = some (0 : Fin 1)⌝ ∗ owes (thr d L) O W' := Entails.of_eq rfl

theorem owesN_more (O : CellTallies nD τ sig (HIx 1)) (W W' : Waits sig (HIx 1)) (x : SemLoc sig × HIx 1) (hx : x.2 = none ∨ x.2 = some (0 : Fin 1))
    (h : ∀ p ∈ W', p ∈ W ∨ p.2 = none ∨ p.2 = some (0 : Fin 1)) : (owes (thr d L) O (insert x W') : sProp 𝕄) ⊢ owesN d L O W := by
  iintro H
  unfold owesN
  iexists _
  isplitr
  · ipureintro
    intro p hp
    rcases Finset.mem_insert.mp hp with rfl | hp
    · exact .inr hx
    · exact h p hp
  · iexact H

end Pieces

variable [FloatOps F]

section Done
variable (d : Dev nD) (L : grid0.Coords)

theorem wp_done {α : Type} {a : α} {Q : α → sProp 𝕄} : Q a ⊢ wp frame (wpE (defs₀ (F := F)) 𝒱₀ (thr d L) none) Set.univ (.ret a) Q := by
  rw [wp_ret]
  iintro H
  imodintro
  iexact H

end Done

/-! ## The barrier -/

section Bar
variable (E : Dev nD → S1000x128.Idx → F .f32) (d : Dev nD) (L : grid0.Coords)

theorem barrier (O : CellTallies nD τ sig (HIx 1)) (W : Waits sig (HIx 1))
    (hOlev : ∀ g ι, 0 < O g ι → 8 * (0 : Fin 1).val + 6 ≤ (K (F := F)).lev g ι) {Q : PUnit → sProp 𝕄} :
    iprop(levAts (K (F := F)).L (K (F := F)).lev ∗ bkit E d (cV L) (jV L) ∗ sWr E d (cV L) (L 1).val ∗ owesN d L (O + owesBar d (cV L)) W)
      ⊢ iprop((iprop(sTd E d (cV L) (L 1).val ∗ sAll E d (cV L) (L 1).val ∗ semVal (bcell d (cV L) (jV L)) 0 ∗ owesN d L O W) -∗ Q ⟨⟩)
          -∗ wp frame (wpE (defs₀ (F := F)) 𝒱₀ (thr d L) none) Set.univ (SparseCore.subcoreBarrier sc_bar0 (grid0.bound 1) hsub0) Q) := by
  unfold bkit
  iintro ⟨#Hlv, ⟨⟨%κ, #Hinv⟩, Htoks, #Hrch, Hat, Hcred⟩, Hw, HO⟩ Hk
  ihave HO := (owesN_elim d L _ W) $$ HO
  icases HO with ⟨%W', %hW, HO⟩
  ihave Hw := (show sWr E d (cV L) (L 1).val ⊢ iprop(sTd E d (cV L) (L 1).val
      ∗ bigSep Finset.univ fun j : Fin (grid0.bound 1) => (bRd E).payload (bcell d (cV L) (j.castLE hsub0)) 0 (jV L).val) from pays_intro E d (cV L) (jV L)) $$ Hw
  icases Hw with ⟨Htd, Hpays⟩
  rw [← bind_pure (SparseCore.subcoreBarrier sc_bar0 (grid0.bound 1) hsub0)]
  iapply (SparseCore.wp_subcoreBarrier 𝒱₀ none EB (bRd E) d (sc := cV L) (i := jV L) sc_bar0 (grid0.bound 1) hsub0 (L 1) rfl κ (fun _ => 0) (jV L).val
    (fun j => bRd_mem E d _ _ _) (fun _ => rfl) (bRd_total E d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3
      (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from bar_ne_go)]; exact le_rfl)
      (fun g ι hg => lt_of_lt_of_le (by decide) (hOlev g ι hg)))
    iexact Hlv
  iintro ⟨HO, Hat, -, Hgot⟩
  imod (Rounds.cell_close EB (bRd E) (g := bcell d (cV L) (jV L)) (Set.mem_univ (κ _)) (fun h => h) (bRd_after E _)) $$ [Hat] with Hbar
  · isplitr
    · iapply (SparseCore.ent (bigSep_elim (Φ := fun j : Fin (grid0.bound 1) =>
        (cellInv EB (bRd E) (κ (bcell d (cV L) (j.castLE hsub0))) (bcell d (cV L) (j.castLE hsub0)) : sProp 𝕄)) (Finset.mem_univ (L 1))))
      iexact Hinv
    · iexact Hat
  iapply (wp_done d L)
  iapply Hk
  isplitl [Htd]; · iexact Htd
  isplitl [Hgot]; · iapply (show (bigSep ((bRd E).duties (bcell d (cV L) (jV L)) 0 \ ∅) fun n => (bRd E).payload (bcell d (cV L) (jV L)) 0 n) ⊢ sAll E d (cV L) (L 1).val
      from pays_elim E d (cV L) (jV L)) $$ Hgot
  isplitl [Hbar]; · iexact Hbar
  iapply (owesN_more d L O W W' _ (.inr rfl) hW) $$ HO

end Bar

/-! ## A wait for one copy -/

section Rules
variable (iT : Dev nD → S20x1024.Idx → BitVec 32) (E : Dev nD → S1000x128.Idx → F .f32) (d : Dev nD) (L : grid0.Coords)

theorem copy_wait {sp sp' : Space} {s s' : Shape} {e e' : EltTy} {sem : DmaSem sig} {srcw : Memref sig .scVector sp' s' e'} {dstw : Memref sig .scVector sp s e}
    {hsrc : srcw.view.WordExact} {hdst : dstw.view.WordExact} {N : ℕ} (hN : dstw.view.dmaCredit = N) (D : sProp 𝕄)
    (O : CellTallies nD τ sig (HIx 1)) (W : Waits sig (HIx 1)) {Q : PUnit → sProp 𝕄} :
    iprop(Transfers.Flight countersEmb (thr d L) (.dma sem) (default : HIx 1) N D ∗ owesN d L O W ∗ Transfers.MayWaits (thr d L) (default : HIx 1) O)
      ⊢ iprop((iprop(D ∗ semVal (thr d L, .dma sem) 0 ∗ owesN d L O W) -∗ Q ⟨⟩)
          -∗ wp frame (wpE (defs₀ (F := F)) 𝒱₀ (thr d L) none) Set.univ (Prog.lift (.waitDma2 sem srcw dstw hsrc hdst)) Q) := by
  iintro ⟨Hf, HO, Hmw⟩ Hk
  ihave HO := (owesN_elim d L O W) $$ HO
  icases HO with ⟨%W', %hW, HO⟩
  iapply (Transfers.wp_waitLocalO countersEmb 𝒱₀ (thr d L) none (default : HIx 1) hN) $$ [Hf HO Hmw]
  · isplitl [Hf]; · iexact Hf
    isplitl [HO]; · iexact HO
    iapply (Transfers.MayWaits.elim (SemLoc.dma sem)) $$ Hmw
  iintro ⟨HD, Hs, HO⟩
  iapply (wp_done d L)
  iapply Hk
  isplitl [HD]; · iexact HD
  isplitl [Hs]; · iexact Hs
  iapply (owesN_more d L O W W' _ (.inl rfl) hW) $$ HO

/-! ## The index copies -/

/-- What an index copy's completion hands back: the chunk of the list scratch, filled, and the chunk it was read from. -/
abbrev iBack (r : ℕ) : sProp 𝕄 := iprop(jPt d L r (tileIdx (iT d) L) ∗ iPt iT d (ch L r))
/-- An index copy's credit. -/
abbrev nJ : ℕ := (jW 0 inb_S640_S128_0).view.dmaCredit

theorem idx_issue (r : Fin 5) (w : BitVec 32) (h) (hw : w = BitVec.ofNat 32 r.val) (o : ℕ) (h') (ho : o = 128 * r.val) (f : S640.Idx → BitVec 32)
    {sem : DmaSem sig} {hsrc : (iW L w h).view.WordExact} {hdst : (jW o h').view.WordExact}
    {hsem : (DmaTarget.here (jW o h') : DmaTarget nD τ sig (.scVector (cV L) (jV L)) .vmem S128 .i32).Typed .hbm (.dma sem)} {Q : PUnit → sProp 𝕄} :
    iprop(iPt iT d (ch L r.val) ∗ jPt d L r.val f ∗ semVal (thr d L, .dma sem) 0)
      ⊢ iprop((Transfers.Flight countersEmb (thr d L) (.dma sem) (default : HIx 1) nJ (iBack iT d L r.val) -∗ Q ⟨⟩)
          -∗ wp frame (wpE (defs₀ (F := F)) 𝒱₀ (thr d L) none) Set.univ (Prog.lift (.enqueueDma (iW L w h) (.here (jW o h')) (.dma sem) hsrc hdst hsem)) Q) := by
  iintro ⟨Hi, Hj, Hs⟩ Hk
  ihave Hi := (Entails.of_eq (pts_iW (F := F) d L (iT d) r w h hw).symm) $$ Hi
  ihave Hj := (Entails.of_eq (pts_jW (F := F) d L f r o h' ho).symm) $$ Hj
  iapply (Transfers.wp_dmaLocal countersEmb 𝒱₀ (thr d L) none (default : HIx 1) nJ rfl (by decide) (Finset.Subset.refl _)) $$ [Hi Hj Hs]
  · isplitl [Hi]; · iexact Hi
    isplitl [Hj]; · iexact Hj
    iexact Hs
  iintro Hf
  iapply (wp_done d L)
  iapply Hk
  iapply (Transfers.Flight_mono countersEmb (thr d L) ?_) $$ Hf
  refine BI.sep_mono ((Entails.of_eq (pointsTo_congr ?_)).trans (Entails.of_eq (pts_jW (F := F) d L (tileIdx (iT d) L) r o h' ho)))
    (Entails.of_eq (pts_iW (F := F) d L (iT d) r w h hw))
  exact agree_write (jW o h').view _ _ _ (jW_read_eq L (iT d) r o h' ho w h hw)

/-! ## The band of the table -/

/-- The conditional of the staging, around its two operations: it leaves the band of the shared scratch staged. -/
theorem stage {sem : DmaSem sig} (hc : k0_cond1 L = 1#1)
    {hsrc : (eW L hc).view.WordExact} {hdst : (sW L hc).view.WordExact} {hsrc' : (eW L hc).view.WordExact} {hdst' : (sW L hc).view.WordExact}
    {hsem : (DmaTarget.here (sW L hc) : DmaTarget nD τ sig (.scVector (cV L) (jV L)) .shared S200x128 .f32).Typed .hbm (.dma sem)}
    (O : CellTallies nD τ sig (HIx 1)) (W : Waits sig (HIx 1)) {Q : PUnit → sProp 𝕄} :
    iprop(ePts E d (L 0).val (L 1).val ∗ sGo d (cV L) (L 1).val ∗ semVal (thr d L, .dma sem) 0 ∗ owesN d L O W ∗ Transfers.MayWaits (thr d L) (default : HIx 1) O)
      ⊢ iprop((iprop(ePts E d (L 0).val (L 1).val ∗ sWr E d (cV L) (L 1).val ∗ semVal (thr d L, .dma sem) 0 ∗ owesN d L O W) -∗ Q ⟨⟩)
          -∗ wp frame (wpE (defs₀ (F := F)) 𝒱₀ (thr d L) none) Set.univ
              (Prog.lift (.enqueueDma (eW L hc) (.here (sW L hc)) (.dma sem) hsrc hdst hsem))
              fun _ => wp frame (wpE (defs₀ (F := F)) 𝒱₀ (thr d L) none) Set.univ (Prog.lift (.waitDma2 sem (eW L hc) (sW L hc) hsrc' hdst')) Q) := by
  have hi : (L 1).val < 5 := (cond_iff L).mp hc
  unfold ePts sGo sWr
  simp only [if_pos hi]
  iintro ⟨He, ⟨%f, Hsh⟩, Hs, HO, Hmw⟩ Hk
  ihave He := (Entails.of_eq (pts_eW (F := F) d L (eShare (L 0).val) (E d) hc).symm) $$ He
  ihave Hsh := (Entails.of_eq (pts_sW (F := F) d L fullShare f hc).symm) $$ Hsh
  iapply (Transfers.wp_dmaLocal countersEmb 𝒱₀ (thr d L) none (default : HIx 1) ((sW L hc).view.dmaCredit) rfl
    (View.dmaCredit_pos _ (by decide)) (Finset.Subset.refl _)) $$ [He Hsh Hs]
  · isplitl [He]; · iexact He
    isplitl [Hsh]; · iexact Hsh
    iexact Hs
  iintro Hf
  iapply (wp_done d L)
  iapply (copy_wait d L (sem := sem) (hsrc := hsrc') (hdst := hdst') rfl _ O W) $$ [Hf HO Hmw]
  · isplitl [Hf]; · iexact Hf
    isplitl [HO]; · iexact HO
    iexact Hmw
  iintro ⟨⟨Hsh, He⟩, Hs, HO⟩
  iapply Hk
  isplitl [He]; · iapply (Entails.of_eq (pts_eW (F := F) d L (eShare (L 0).val) (E d) hc)) $$ He
  isplitl [Hsh]
  · iapply (Entails.of_eq (pts_sW (F := F) d L fullShare (E d) hc))
    iapply (Entails.of_eq (pointsTo_congr (agree_write (sW L hc).view _ (show S1000x128.Idx → Elt F .f32 from E d) _ rfl))) $$ Hsh
  isplitl [Hs]; · iexact Hs
  iexact HO

/-- The conditional itself, with what follows it on either side: a tile past the fifth stages nothing. -/
theorem stage_join {sem : DmaSem sig}
    {hsrc : ∀ hc, (eW L hc).view.WordExact} {hdst : ∀ hc, (sW L hc).view.WordExact} {hsrc' : ∀ hc, (eW L hc).view.WordExact} {hdst' : ∀ hc, (sW L hc).view.WordExact}
    {hsem : ∀ hc, (DmaTarget.here (sW L hc) : DmaTarget nD τ sig (.scVector (cV L) (jV L)) .shared S200x128 .f32).Typed .hbm (.dma sem)}
    (O : CellTallies nD τ sig (HIx 1)) (W : Waits sig (HIx 1)) {rest : Prog (TpuEff nD τ sig (Elt F) Λ₀ (.scVector (cV L) (jV L))) PUnit} {Q : PUnit → sProp 𝕄} :
    iprop(ePts E d (L 0).val (L 1).val ∗ sGo d (cV L) (L 1).val ∗ semVal (thr d L, .dma sem) 0 ∗ owesN d L O W ∗ Transfers.MayWaits (thr d L) (default : HIx 1) O)
      ⊢ iprop((iprop(ePts E d (L 0).val (L 1).val ∗ sWr E d (cV L) (L 1).val ∗ semVal (thr d L, .dma sem) 0 ∗ owesN d L O W)
            -∗ wp frame (wpE (defs₀ (F := F)) 𝒱₀ (thr d L) none) Set.univ rest Q)
          -∗ wp frame (wpE (defs₀ (F := F)) 𝒱₀ (thr d L) none) Set.univ
              (if hc : k0_cond1 L = 1#1 then do
                Prog.lift (.enqueueDma (eW L hc) (.here (sW L hc)) (.dma sem) (hsrc hc) (hdst hc) (hsem hc))
                Prog.lift (.waitDma2 sem (eW L hc) (sW L hc) (hsrc' hc) (hdst' hc))
                rest
              else rest) Q) := by
  by_cases hc : k0_cond1 L = 1#1
  · rw [dif_pos hc]
    simp only [wp_bind]
    exact stage E d L hc O W (sem := sem) (hsrc := hsrc hc) (hdst := hdst hc) (hsrc' := hsrc' hc) (hdst' := hdst' hc) (hsem := hsem hc)
      (Q := fun _ => wp frame (wpE (defs₀ (F := F)) 𝒱₀ (thr d L) none) Set.univ rest Q)
  · rw [dif_neg hc]
    have hi : ¬ (L 1).val < 5 := fun h => hc ((cond_iff L).mpr h)
    unfold ePts sGo sWr
    simp only [if_neg hi]
    iintro ⟨He, Hsh, Hs, HO, -⟩ Hk
    iapply Hk
    isplitl [He]; · iexact He
    isplitl [Hsh]; · iexact Hsh
    isplitl [Hs]; · iexact Hs
    iexact HO

/-! ## The gathers -/

/-- What a gather's completion hands back: the chunk of the row scratch, gathered, its share of the shared scratch and the list. -/
abbrev gBack (r : ℕ) (q : PosShare TreeShare) : sProp 𝕄 := iprop(rPt d L r (tileRows (iT d) (E d) L) ∗ gPt d L E q ∗ jPt d L r (tileIdx (iT d) L))
/-- A gather's credit, and a write-out's. -/
abbrev nR : ℕ := (rW 0 inb_S640x128_S128x128_0_0).view.dmaCredit

theorem rows_credit (o : ℕ) (h') (h : S1000x128.Gathers 0 S128x128) :
    ∑ j, ((rW o h').slice (S128x128.rowRect h.axis' j) (S128x128.stride_rowRect h.axis' j)).view.dmaCredit = nR := by
  show ∑ j, ((rW 0 inb_S640x128_S128x128_0_0).slice (S128x128.rowRect h.axis' j) (S128x128.stride_rowRect h.axis' j)).view.dmaCredit = nR
  revert h; decide

theorem gather_issue (hI : ∀ x, (iT d x).toNat < 1000) (r : Fin 5) (o : ℕ) (h) (h') (ho : o = 128 * r.val) (f : S640x128.Idx → F .f32) (q : PosShare TreeShare)
    {sem : DmaSem sig} {hn} {hp} {hsrc : (gW).view.WordExact} {he} {hsp} {hr} {Q : PUnit → sProp 𝕄} :
    iprop(gPt d L E q ∗ rPt d L r.val f ∗ jPt d L r.val (tileIdx (iT d) L) ∗ semVal (thr d L, .dma sem) 0)
      ⊢ iprop((Transfers.Flight countersEmb (thr d L) (.dma sem) (default : HIx 1) nR (gBack iT E d L r.val q) -∗ Q ⟨⟩)
          -∗ wp frame (wpE (defs₀ (F := F)) 𝒱₀ (thr d L) none) Set.univ
              (SparseCore.enqueueIndirectGather hp gW (rW o h') gathers_S1000x128_S128x128 (jW o h) hn sem hsrc he hsp hr) Q) := by
  iintro ⟨Hg, Hr, Hj, Hs⟩ Hk
  ihave Hg := (Entails.of_eq (pts_gW (F := F) d L q (E d)).symm) $$ Hg
  ihave Hr := (Entails.of_eq (pts_rW (F := F) d L f r o h' ho).symm) $$ Hr
  ihave Hj := (Entails.of_eq (pts_jW (F := F) d L (tileIdx (iT d) L) r o h ho).symm) $$ Hj
  rw [← bind_pure (SparseCore.enqueueIndirectGather hp gW (rW o h') gathers_S1000x128_S128x128 (jW o h) hn sem hsrc he hsp hr)]
  iapply (SparseCore.wp_indirectGatherLocal countersEmb 𝒱₀ (thr d L) none (hg := gathers_S1000x128_S128x128) (default : HIx 1) nR
    (rows_credit o h' _) (by decide) (list_inb L (iT d) hI r o h ho)) $$ [Hg Hr Hj Hs]
  · isplitl [Hg]; · iexact Hg
    isplitl [Hr]; · iexact Hr
    isplitl [Hj]; · iexact Hj
    iexact Hs
  iintro Hf
  iapply (wp_done d L)
  iapply Hk
  iapply (Transfers.Flight_mono countersEmb (thr d L) ?_) $$ Hf
  refine BI.sep_mono ((Entails.of_eq (pointsTo_congr ?_)).trans (Entails.of_eq (pts_rW (F := F) d L (tileRows (iT d) (E d) L) r o h' ho)))
    (BI.sep_mono (Entails.of_eq (pts_gW (F := F) d L q (E d))) (Entails.of_eq (pts_jW (F := F) d L (tileIdx (iT d) L) r o h ho)))
  exact agree_write (rW o h').view _ _ _ (gather_read_eq L (iT d) (E d) hI r o h h' ho _ _)

theorem gather_wait {sem : DmaSem sig} {s' : Shape} {srcw : Memref sig .scVector .shared s' .f32} {o : ℕ} {h'}
    {hsrc : srcw.view.WordExact} {hdst : (rW o h').view.WordExact} (D : sProp 𝕄)
    (O : CellTallies nD τ sig (HIx 1)) (W : Waits sig (HIx 1)) {Q : PUnit → sProp 𝕄} :
    iprop(Transfers.Flight countersEmb (thr d L) (.dma sem) (default : HIx 1) nR D ∗ owesN d L O W ∗ Transfers.MayWaits (thr d L) (default : HIx 1) O)
      ⊢ iprop((iprop(D ∗ semVal (thr d L, .dma sem) 0 ∗ owesN d L O W) -∗ Q ⟨⟩)
          -∗ wp frame (wpE (defs₀ (F := F)) 𝒱₀ (thr d L) none) Set.univ (SparseCore.waitIndirectGather sem srcw (rW o h') hsrc hdst) Q) :=
  copy_wait d L (hsrc := hsrc) (hdst := hdst) (rfl : (rW o h').view.dmaCredit = nR) D O W

/-! ## The write-outs, five on one semaphore -/

/-- What a write-out's completion hands back. -/
abbrev oBack (r : ℕ) : sProp 𝕄 := iprop(oPt d (ch L r) (gathered (iT d) (E d)) ∗ rPt d L r (tileRows (iT d) (E d) L))
/-- A write-out's credit. -/
abbrev nO : ℕ := (Memref.whole main_v1_scv : Memref sig .scVector .hbm S20480x128 .f32).view.ref.dmaCredit S128x128 .f32
/-- The five of them: `j` issued, `u` units waited for. -/
abbrev outs (sem : DmaSem sig) (j u : ℕ) : sProp 𝕄 :=
  Transfers.Batch countersEmb (thr d L) (.dma sem) (default : HIx 1) nO (fun t : Fin 5 => oBack iT E d L t.val) j u

theorem out_issue (r : Fin 5) (w : BitVec 32) (h) (hw : w = BitVec.ofNat 32 (128 * r.val)) (o : ℕ) (h') (ho : o = 128 * r.val) (f : S20480x128.Idx → F .f32)
    {sem : DmaSem sig} {hsrc : (rW o h').view.WordExact} {hdst : (oW L w h).view.WordExact}
    {hsem : (DmaTarget.here (oW L w h) : DmaTarget nD τ sig (.scVector (cV L) (jV L)) .hbm S128x128 .f32).Typed .vmem (.dma sem)} {Q : PUnit → sProp 𝕄} :
    iprop(rPt d L r.val (tileRows (iT d) (E d) L) ∗ oPt d (ch L r.val) f ∗ outs iT E d L sem r.val 0)
      ⊢ iprop((outs iT E d L sem (r.val + 1) 0 -∗ Q ⟨⟩)
          -∗ wp frame (wpE (defs₀ (F := F)) 𝒱₀ (thr d L) none) Set.univ (Prog.lift (.enqueueDma (rW o h') (.here (oW L w h)) (.dma sem) hsrc hdst hsem)) Q) := by
  iintro ⟨Hr, Ho, HB⟩ Hk
  ihave Hr := (Entails.of_eq (pts_rW (F := F) d L (tileRows (iT d) (E d) L) r o h' ho).symm) $$ Hr
  ihave Ho := (Entails.of_eq (pts_oW (F := F) d L f r w h hw).symm) $$ Ho
  iapply (Transfers.wp_dmaBatch countersEmb 𝒱₀ (thr d L) none (default : HIx 1) nO rfl (Finset.Subset.refl _) r.isLt (Nat.zero_le _)
    (D := fun t : Fin 5 => oBack iT E d L t.val) (q := fullShare) (fs := (show Buf (Elt F) ((rW o h').view.loc (thr d L)) from tileRows (iT d) (E d) L))
    (fd := (show Buf (Elt F) ((oW L w h).view.loc (thr d L)) from f)) ?_) $$ [Hr Ho HB]
  · refine BI.sep_mono ((Entails.of_eq (pointsTo_congr ?_)).trans (Entails.of_eq (pts_oW (F := F) d L (gathered (iT d) (E d)) r w h hw)))
      (Entails.of_eq (pts_rW (F := F) d L (tileRows (iT d) (E d) L) r o h' ho))
    exact agree_write (oW L w h).view _ _ _ (oW_read_eq L (iT d) (E d) r o h' ho w h hw)
  · isplitl [Hr]; · iexact Hr
    isplitl [Ho]; · iexact Ho
    iexact HB
  iintro HB
  iapply (wp_done d L)
  iapply Hk
  iexact HB

theorem out_wait {u : ℕ} (hu : u + nO < nO * 5) {sem : DmaSem sig} {w : BitVec 32} {h} {o : ℕ} {h'} {hsrc : (rW o h').view.WordExact} {hdst : (oW L w h).view.WordExact}
    (O : CellTallies nD τ sig (HIx 1)) (W : Waits sig (HIx 1)) {Q : PUnit → sProp 𝕄} :
    iprop(outs iT E d L sem 5 u ∗ owesN d L O W ∗ Transfers.MayWaits (thr d L) (default : HIx 1) O)
      ⊢ iprop((iprop(outs iT E d L sem 5 (u + nO) ∗ owesN d L O W) -∗ Q ⟨⟩)
          -∗ wp frame (wpE (defs₀ (F := F)) 𝒱₀ (thr d L) none) Set.univ (Prog.lift (.waitDma2 sem (rW o h') (oW L w h) hsrc hdst)) Q) := by
  iintro ⟨HB, HO, Hmw⟩ Hk
  ihave HO := (owesN_elim d L O W) $$ HO
  icases HO with ⟨%W', %hW, HO⟩
  iapply (Transfers.wp_waitBatchO countersEmb 𝒱₀ (thr d L) none (default : HIx 1) (rfl : (oW L w h).view.dmaCredit = nO) hu) $$ [HB HO Hmw]
  · isplitl [HB]; · iexact HB
    isplitl [HO]; · iexact HO
    iapply (Transfers.MayWaits.elim (SemLoc.dma sem)) $$ Hmw
  iintro ⟨HB, HO⟩
  iapply (wp_done d L)
  iapply Hk
  isplitl [HB]; · iexact HB
  iapply (owesN_more d L O W W' _ (.inl rfl) hW) $$ HO

theorem out_wait_last {u : ℕ} (hu : u + nO = nO * 5) {sem : DmaSem sig} {w : BitVec 32} {h} {o : ℕ} {h'} {hsrc : (rW o h').view.WordExact} {hdst : (oW L w h).view.WordExact}
    (O : CellTallies nD τ sig (HIx 1)) (W : Waits sig (HIx 1)) {Q : PUnit → sProp 𝕄} :
    iprop(outs iT E d L sem 5 u ∗ owesN d L O W ∗ Transfers.MayWaits (thr d L) (default : HIx 1) O)
      ⊢ iprop((iprop((bigSep Finset.univ fun t : Fin 5 => oBack iT E d L t.val) ∗ semVal (thr d L, .dma sem) 0 ∗ owesN d L O W) -∗ Q ⟨⟩)
          -∗ wp frame (wpE (defs₀ (F := F)) 𝒱₀ (thr d L) none) Set.univ (Prog.lift (.waitDma2 sem (rW o h') (oW L w h) hsrc hdst)) Q) := by
  iintro ⟨HB, HO, Hmw⟩ Hk
  ihave HO := (owesN_elim d L O W) $$ HO
  icases HO with ⟨%W', %hW, HO⟩
  iapply (Transfers.wp_waitBatchLastO countersEmb 𝒱₀ (thr d L) none (default : HIx 1) (rfl : (oW L w h).view.dmaCredit = nO) (View.dmaCredit_pos _ (by decide)) hu) $$ [HB HO Hmw]
  · isplitl [HB]; · iexact HB
    isplitl [HO]; · iexact HO
    iapply (Transfers.MayWaits.elim (SemLoc.dma sem)) $$ Hmw
  iintro ⟨HD, Hs, HO⟩
  iapply (wp_done d L)
  iapply Hk
  isplitl [HD]; · iexact HD
  isplitl [Hs]; · iexact Hs
  iapply (owesN_more d L O W W' _ (.inl rfl) hW) $$ HO

end Rules

end Cert.Proof.Gather
-- ==== Proof.Tile.lean ====
/-
  The gather call's task at a symbolic SparseCore and tile, its value carried through it: the five chunks of its indices
  come in, its band of the table is staged and handed out at the barrier, each chunk of rows is gathered from the shared
  scratch and written to its place of the output, which ends at the gathered rows.
-/
module

public import proofs.«01_k».proof.Proof.Rules

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

section Tile
variable (iT : Dev nD → S20x1024.Idx → BitVec 32) (E : Dev nD → S1000x128.Idx → F .f32) (d : Dev nD) (L : grid0.Coords)

set_option maxHeartbeats 4000000 in
theorem tile_body (hF : (K (F := F)).Facts) (hI : ∀ x, (iT d x).toNat < 1000) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit E d (cV L) (jV L)
        ∗ (goT iT E d (L 0).val (L 1).val ∗ sGo d (cV L) (L 1).val)
        ∗ scopedBufs (thr d L) ∗ scopedSems0 (thr d L) ∗ owes (thr d L) (O + owesBar d (cV L)) W)
      ⊢ wp frame (wpE (defs₀ (F := F)) 𝒱₀ (thr d L) none) Set.univ
          (cc0__sc_gather L eM (Memref.isWhole_whole _) iM (Memref.isWhole_whole _) oM (Memref.isWhole_whole _)
            idxM (Memref.isWhole_whole _) rowM (Memref.isWhole_whole _) shM (Memref.isWhole_whole _) cc0_scratch3 cc0_scratch4 cc0_scratch5 cc0_scoped0)
          fun _ => iprop(((tdT iT E d (L 0).val (L 1).val ∗ semVal (bcell d (cV L) (jV L)) 0) ∗ sTd E d (cV L) (L 1).val ∗ sAll E d (cV L) (L 1).val)
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0__sc_gather_eq_skeleton]; unfold cc0__sc_gather_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [wp_bind]
  rw [(K (F := F)).scopedBufs_V hF d (cV L) (jV L), SparseCore.Cfg.scopedSems0_V (Val := Elt F) d (cV L) (jV L), ownSems0_V, ownBufs_V, bigSep_twelve]
  unfold goT iPts oPts
  rw [bigSep_five]
  iintro ⟨#Hlv, Hkit, ⟨⟨⟨Hi0, Hi1, Hi2, Hi3, Hi4⟩, He, %fo, Ho⟩, Hsh⟩, ⟨⟨%fi, Hj⟩, ⟨%fr, Hr⟩, Hbufs⟩, ⟨⟨⟨Ha0, Ha1, Ha2, Ha3, Ha4⟩, ⟨Hb0, Hb1, Hb2, Hb3, Hb4⟩, Hw, Hs⟩, Hsems⟩, HO⟩
  have hO' : ∀ g, (O + owesBar d (cV L)) g none = 0 := fun g => by rw [Pi.add_apply, Finsupp.add_apply, hO g, owesBar_none]
  ihave #Hmw := (show levAts (K (F := F)).L (K (F := F)).lev ⊢ Transfers.MayWaits (thr d L) (default : HIx 1) (O + owesBar d (cV L)) from
    (K (F := F)).mayWaits_none (thr := thr d L) hO') $$ Hlv
  ihave #Hmw2 := (show levAts (K (F := F)).L (K (F := F)).lev ⊢ Transfers.MayWaits (thr d L) (default : HIx 1) O from
    (K (F := F)).mayWaits_none (thr := thr d L) hO) $$ Hlv
  ihave Hj := (Entails.of_eq ((idx_chunks d (cV L) (jV L) fi).trans (bigSep_five _))) $$ Hj
  ihave Hr := (Entails.of_eq ((row_chunks d (cV L) (jV L) fr).trans (bigSep_five _))) $$ Hr
  ihave Ho := (Entails.of_eq (bigSep_five _)) $$ Ho
  icases Hj with ⟨Hj0, Hj1, Hj2, Hj3, Hj4⟩
  icases Hr with ⟨Hr0, Hr1, Hr2, Hr3, Hr4⟩
  icases Ho with ⟨Ho0, Ho1, Ho2, Ho3, Ho4⟩
  ihave HO := (owesN_intro d L _ W) $$ HO
  iapply (wp_done d L)
  iapply (idx_issue iT d L 0 0#32 (k0_off1_inb L 0) rfl 0 inb_S640_S128_0 rfl fi) $$ [Hi0 Hj0 Ha0]
  · isplitl [Hi0]; · iexact Hi0
    isplitl [Hj0]; · iexact Hj0
    iexact Ha0
  iintro Hf0
  iapply (wp_done d L)
  iapply (idx_issue iT d L 1 1#32 (k0_off1_inb L 1) rfl 128 inb_S640_S128_128 rfl fi) $$ [Hi1 Hj1 Ha1]
  · isplitl [Hi1]; · iexact Hi1
    isplitl [Hj1]; · iexact Hj1
    iexact Ha1
  iintro Hf1
  iapply (wp_done d L)
  iapply (idx_issue iT d L 2 2#32 (k0_off1_inb L 2) rfl 256 inb_S640_S128_256 rfl fi) $$ [Hi2 Hj2 Ha2]
  · isplitl [Hi2]; · iexact Hi2
    isplitl [Hj2]; · iexact Hj2
    iexact Ha2
  iintro Hf2
  iapply (idx_issue iT d L 3 3#32 (k0_off1_inb L 3) rfl 384 inb_S640_S128_384 rfl fi) $$ [Hi3 Hj3 Ha3]
  · isplitl [Hi3]; · iexact Hi3
    isplitl [Hj3]; · iexact Hj3
    iexact Ha3
  iintro Hf3
  iapply (wp_done d L)
  iapply (idx_issue iT d L 4 4#32 (k0_off1_inb L 4) rfl 512 inb_S640_S128_512 rfl fi) $$ [Hi4 Hj4 Ha4]
  · isplitl [Hi4]; · iexact Hi4
    isplitl [Hj4]; · iexact Hj4
    iexact Ha4
  iintro Hf4
  iapply (wp_done d L)
  iapply (stage_join E d L (sem := cc0_scoped0.sem) (O + owesBar d (cV L)) W) $$ [He Hsh Hs HO]
  · isplitl [He]; · iexact He
    isplitl [Hsh]; · iexact Hsh
    isplitl [Hs]; · iexact Hs
    isplitl [HO]; · iexact HO
    iexact Hmw
  iintro ⟨He, Hsh, Hs, HO⟩
  simp only [wp_bind]
  iapply (barrier E d L O W hOlev) $$ [Hkit Hsh HO]
  · isplitr; · iexact Hlv
    isplitl [Hkit]; · iexact Hkit
    isplitl [Hsh]; · iexact Hsh
    iexact HO
  iintro ⟨Htd, Hall, Hbar, HO⟩
  ihave Hall := (Transfers.pointsTo_toks_split (Transfers.shareTokN fullShare (L 1).val) 5) $$ Hall
  icases Hall with ⟨Hkeep, Hall⟩
  ihave Hall := (Entails.of_eq (bigSep_five _)) $$ Hall
  icases Hall with ⟨Hg0, Hg1, Hg2, Hg3, Hg4⟩
  iapply (copy_wait d L (rfl : (jW 0 inb_S640_S128_0).view.dmaCredit = nJ) (iBack iT d L 0) O W) $$ [Hf0 HO]
  · isplitl [Hf0]; · iexact Hf0
    isplitl [HO]; · iexact HO
    iexact Hmw2
  iintro ⟨⟨Hj0, Hi0⟩, Ha0, HO⟩
  iapply (gather_issue iT E d L hI 0 0 inb_S640_S128_0 inb_S640x128_S128x128_0_0 rfl fr _) $$ [Hg0 Hr0 Hj0 Hb0]
  · isplitl [Hg0]; · iexact Hg0
    isplitl [Hr0]; · iexact Hr0
    isplitl [Hj0]; · iexact Hj0
    iexact Hb0
  iintro Hf0
  iapply (copy_wait d L (rfl : (jW 128 inb_S640_S128_128).view.dmaCredit = nJ) (iBack iT d L 1) O W) $$ [Hf1 HO]
  · isplitl [Hf1]; · iexact Hf1
    isplitl [HO]; · iexact HO
    iexact Hmw2
  iintro ⟨⟨Hj1, Hi1⟩, Ha1, HO⟩
  iapply (gather_issue iT E d L hI 1 128 inb_S640_S128_128 inb_S640x128_S128x128_128_0 rfl fr _) $$ [Hg1 Hr1 Hj1 Hb1]
  · isplitl [Hg1]; · iexact Hg1
    isplitl [Hr1]; · iexact Hr1
    isplitl [Hj1]; · iexact Hj1
    iexact Hb1
  iintro Hf1
  iapply (wp_done d L)
  iapply (copy_wait d L (rfl : (jW 256 inb_S640_S128_256).view.dmaCredit = nJ) (iBack iT d L 2) O W) $$ [Hf2 HO]
  · isplitl [Hf2]; · iexact Hf2
    isplitl [HO]; · iexact HO
    iexact Hmw2
  iintro ⟨⟨Hj2, Hi2⟩, Ha2, HO⟩
  iapply (gather_issue iT E d L hI 2 256 inb_S640_S128_256 inb_S640x128_S128x128_256_0 rfl fr _) $$ [Hg2 Hr2 Hj2 Hb2]
  · isplitl [Hg2]; · iexact Hg2
    isplitl [Hr2]; · iexact Hr2
    isplitl [Hj2]; · iexact Hj2
    iexact Hb2
  iintro Hf2
  iapply (copy_wait d L (rfl : (jW 384 inb_S640_S128_384).view.dmaCredit = nJ) (iBack iT d L 3) O W) $$ [Hf3 HO]
  · isplitl [Hf3]; · iexact Hf3
    isplitl [HO]; · iexact HO
    iexact Hmw2
  iintro ⟨⟨Hj3, Hi3⟩, Ha3, HO⟩
  iapply (gather_issue iT E d L hI 3 384 inb_S640_S128_384 inb_S640x128_S128x128_384_0 rfl fr _) $$ [Hg3 Hr3 Hj3 Hb3]
  · isplitl [Hg3]; · iexact Hg3
    isplitl [Hr3]; · iexact Hr3
    isplitl [Hj3]; · iexact Hj3
    iexact Hb3
  iintro Hf3
  iapply (copy_wait d L (rfl : (jW 512 inb_S640_S128_512).view.dmaCredit = nJ) (iBack iT d L 4) O W) $$ [Hf4 HO]
  · isplitl [Hf4]; · iexact Hf4
    isplitl [HO]; · iexact HO
    iexact Hmw2
  iintro ⟨⟨Hj4, Hi4⟩, Ha4, HO⟩
  iapply (wp_done d L)
  iapply (gather_issue iT E d L hI 4 512 inb_S640_S128_512 inb_S640x128_S128x128_512_0 rfl fr _) $$ [Hg4 Hr4 Hj4 Hb4]
  · isplitl [Hg4]; · iexact Hg4
    isplitl [Hr4]; · iexact Hr4
    isplitl [Hj4]; · iexact Hj4
    iexact Hb4
  iintro Hf4
  ihave Hw := (show (semVal (dcell d (cV L) (jV L) 10) 0 : sProp 𝕄) ⊢ semVal (thr d L, .dma cc0_scratch5.sem) 0 from Entails.of_eq rfl) $$ Hw
  imod (Transfers.batch_alloc' (Lvl := ℕ) (countersEmb (U := UU)) (thr d L) (default : HIx 1) nO (fun t : Fin 5 => oBack iT E d L t.val) (sm := .dma cc0_scratch5.sem) (E := Set.univ)) $$ Hw with HB
  iapply (gather_wait d L _ O W) $$ [Hf0 HO]
  · isplitl [Hf0]; · iexact Hf0
    isplitl [HO]; · iexact HO
    iexact Hmw2
  iintro ⟨⟨Hr0, Hg0, Hj0⟩, Hb0, HO⟩
  iapply (out_issue iT E d L 0 0#32 (k0_off3_inb L 0) rfl 0 inb_S640x128_S128x128_0_0 rfl fo) $$ [Hr0 Ho0 HB]
  · isplitl [Hr0]; · iexact Hr0
    isplitl [Ho0]; · iexact Ho0
    iexact HB
  iintro HB
  iapply (gather_wait d L _ O W) $$ [Hf1 HO]
  · isplitl [Hf1]; · iexact Hf1
    isplitl [HO]; · iexact HO
    iexact Hmw2
  iintro ⟨⟨Hr1, Hg1, Hj1⟩, Hb1, HO⟩
  iapply (out_issue iT E d L 1 128#32 (k0_off3_inb L 1) rfl 128 inb_S640x128_S128x128_128_0 rfl fo) $$ [Hr1 Ho1 HB]
  · isplitl [Hr1]; · iexact Hr1
    isplitl [Ho1]; · iexact Ho1
    iexact HB
  iintro HB
  iapply (wp_done d L)
  iapply (gather_wait d L _ O W) $$ [Hf2 HO]
  · isplitl [Hf2]; · iexact Hf2
    isplitl [HO]; · iexact HO
    iexact Hmw2
  iintro ⟨⟨Hr2, Hg2, Hj2⟩, Hb2, HO⟩
  iapply (out_issue iT E d L 2 256#32 (k0_off3_inb L 2) rfl 256 inb_S640x128_S128x128_256_0 rfl fo) $$ [Hr2 Ho2 HB]
  · isplitl [Hr2]; · iexact Hr2
    isplitl [Ho2]; · iexact Ho2
    iexact HB
  iintro HB
  iapply (gather_wait d L _ O W) $$ [Hf3 HO]
  · isplitl [Hf3]; · iexact Hf3
    isplitl [HO]; · iexact HO
    iexact Hmw2
  iintro ⟨⟨Hr3, Hg3, Hj3⟩, Hb3, HO⟩
  iapply (out_issue iT E d L 3 384#32 (k0_off3_inb L 3) rfl 384 inb_S640x128_S128x128_384_0 rfl fo) $$ [Hr3 Ho3 HB]
  · isplitl [Hr3]; · iexact Hr3
    isplitl [Ho3]; · iexact Ho3
    iexact HB
  iintro HB
  iapply (gather_wait d L _ O W) $$ [Hf4 HO]
  · isplitl [Hf4]; · iexact Hf4
    isplitl [HO]; · iexact HO
    iexact Hmw2
  iintro ⟨⟨Hr4, Hg4, Hj4⟩, Hb4, HO⟩
  iapply (wp_done d L)
  iapply (out_issue iT E d L 4 512#32 (k0_off3_inb L 4) rfl 512 inb_S640x128_S128x128_512_0 rfl fo) $$ [Hr4 Ho4 HB]
  · isplitl [Hr4]; · iexact Hr4
    isplitl [Ho4]; · iexact Ho4
    iexact HB
  iintro HB
  iapply (out_wait iT E d L (u := 0) (by decide) O W) $$ [HB HO]
  · isplitl [HB]; · iexact HB
    isplitl [HO]; · iexact HO
    iexact Hmw2
  iintro ⟨HB, HO⟩
  iapply (out_wait iT E d L (u := 0 + nO) (by decide) O W) $$ [HB HO]
  · isplitl [HB]; · iexact HB
    isplitl [HO]; · iexact HO
    iexact Hmw2
  iintro ⟨HB, HO⟩
  iapply (out_wait iT E d L (u := 0 + nO + nO) (by decide) O W) $$ [HB HO]
  · isplitl [HB]; · iexact HB
    isplitl [HO]; · iexact HO
    iexact Hmw2
  iintro ⟨HB, HO⟩
  iapply (out_wait iT E d L (u := 0 + nO + nO + nO) (by decide) O W) $$ [HB HO]
  · isplitl [HB]; · iexact HB
    isplitl [HO]; · iexact HO
    iexact Hmw2
  iintro ⟨HB, HO⟩
  iapply (wp_done d L)
  iapply (out_wait_last iT E d L (u := 0 + nO + nO + nO + nO) (by decide) O W) $$ [HB HO]
  · isplitl [HB]; · iexact HB
    isplitl [HO]; · iexact HO
    iexact Hmw2
  iintro ⟨HD, Hw, HO⟩
  iapply (wp_done d L)
  ihave HD := (Entails.of_eq (bigSep_five _)) $$ HD
  icases HD with ⟨⟨Ho0, Hr0⟩, ⟨Ho1, Hr1⟩, ⟨Ho2, Hr2⟩, ⟨Ho3, Hr3⟩, Ho4, Hr4⟩
  ihave HO := (owesN_elim d L O W) $$ HO
  isplitl [Hi0 Hi1 Hi2 Hi3 Hi4 He Ho0 Ho1 Ho2 Ho3 Ho4 Hbar Htd Hkeep Hg0 Hg1 Hg2 Hg3 Hg4]
  · isplitl [Hi0 Hi1 Hi2 Hi3 Hi4 He Ho0 Ho1 Ho2 Ho3 Ho4 Hbar]
    · isplitr [Hbar]
      · unfold tdT iPts oPts
        isplitl [Hi0 Hi1 Hi2 Hi3 Hi4]
        · iapply (Entails.of_eq (bigSep_five _).symm)
          isplitl [Hi0]; · iexact Hi0
          isplitl [Hi1]; · iexact Hi1
          isplitl [Hi2]; · iexact Hi2
          isplitl [Hi3]; · iexact Hi3
          iexact Hi4
        isplitl [He]; · iexact He
        iapply (Entails.of_eq (bigSep_five _).symm)
        isplitl [Ho0]; · iexact Ho0
        isplitl [Ho1]; · iexact Ho1
        isplitl [Ho2]; · iexact Ho2
        isplitl [Ho3]; · iexact Ho3
        iexact Ho4
      · iexact Hbar
    isplitl [Htd]; · iexact Htd
    iapply (Transfers.pointsTo_toks_join (Transfers.shareTokN fullShare (L 1).val) 5)
    isplitl [Hkeep]; · iexact Hkeep
    iapply (Entails.of_eq (bigSep_five _).symm)
    isplitl [Hg0]; · iexact Hg0
    isplitl [Hg1]; · iexact Hg1
    isplitl [Hg2]; · iexact Hg2
    isplitl [Hg3]; · iexact Hg3
    iexact Hg4
  isplitl [Hj0 Hj1 Hj2 Hj3 Hj4 Hr0 Hr1 Hr2 Hr3 Hr4 Hbufs]
  · isplitl [Hj0 Hj1 Hj2 Hj3 Hj4]
    · iexists (show Buf (Elt F) ((V d (cV L) (jV L)).loc cc0_scratch0) from tileIdx (iT d) L)
      iapply (Entails.of_eq ((idx_chunks d (cV L) (jV L) (tileIdx (iT d) L)).trans (bigSep_five _)).symm)
      isplitl [Hj0]; · iexact Hj0
      isplitl [Hj1]; · iexact Hj1
      isplitl [Hj2]; · iexact Hj2
      isplitl [Hj3]; · iexact Hj3
      iexact Hj4
    isplitl [Hr0 Hr1 Hr2 Hr3 Hr4]
    · iexists (show Buf (Elt F) ((V d (cV L) (jV L)).loc cc0_scratch1) from tileRows (iT d) (E d) L)
      iapply (Entails.of_eq ((row_chunks d (cV L) (jV L) (tileRows (iT d) (E d) L)).trans (bigSep_five _)).symm)
      isplitl [Hr0]; · iexact Hr0
      isplitl [Hr1]; · iexact Hr1
      isplitl [Hr2]; · iexact Hr2
      isplitl [Hr3]; · iexact Hr3
      iexact Hr4
    iexact Hbufs
  isplitr [HO]
  · isplitr [Hsems]
    · isplitl [Ha0 Ha1 Ha2 Ha3 Ha4]
      · isplitl [Ha0]; · iexact Ha0
        isplitl [Ha1]; · iexact Ha1
        isplitl [Ha2]; · iexact Ha2
        isplitl [Ha3]; · iexact Ha3
        iexact Ha4
      isplitl [Hb0 Hb1 Hb2 Hb3 Hb4]
      · isplitl [Hb0]; · iexact Hb0
        isplitl [Hb1]; · iexact Hb1
        isplitl [Hb2]; · iexact Hb2
        isplitl [Hb3]; · iexact Hb3
        iexact Hb4
      isplitl [Hw]; · iexact Hw
      iexact Hs
    · iexact Hsems
  iexact HO

/-! ## The task as the launch asks for it -/

/-- The coordinates of a SparseCore and a tile. -/
def coordsV (c : Fin (grid0.bound 0)) (s : Fin (grid0.bound 1)) : grid0.Coords
  | 0 => c
  | 1 => s
  | ⟨_ + 2, h⟩ => absurd h (Nat.not_lt.2 (Nat.le_add_left _ _))

theorem defs₀_vector (c : Fin τ.nSC) (s : Fin τ.nSub) : defs₀ (F := F) (.scVector c s) 0 ()
    = SparseCore.onTile hcore0 hsub0 (fun c s => cc0__sc_gather (coordsV c s) eM (Memref.isWhole_whole _) iM (Memref.isWhole_whole _) oM (Memref.isWhole_whole _)
        idxM (Memref.isWhole_whole _) rowM (Memref.isWhole_whole _) shM (Memref.isWhole_whole _) cc0_scratch3 cc0_scratch4 cc0_scratch5 cc0_scoped0) ⟨⟩ c s := rfl

set_option maxRecDepth 16384 in
theorem tileObl (hF : (K (F := F)).Facts) (hI : ∀ d x, (iT d x).toNat < 1000) : (K (F := F)).TileObl (D (F := F)) 𝒱 (P iT E) v₀ 0 := by
  intro d c i O W hO hOlev _
  have hci : ((K (F := F)).core 0 c).val < grid0.bound 0 ∧ ((K (F := F)).sub 0 i).val < grid0.bound 1 := ⟨c.isLt, i.isLt⟩
  have hc : ((K (F := F)).core 0 c).val < 2 := c.isLt
  rw [show (P iT E).ox 0 (V d ((K (F := F)).core 0 c) ((K (F := F)).sub 0 i)) = owesBar d ((K (F := F)).core 0 c) from if_pos hc,
    show (P iT E).x 0 (V d ((K (F := F)).core 0 c) ((K (F := F)).sub 0 i)) = bkit E d ((K (F := F)).core 0 c) ((K (F := F)).sub 0 i) from if_pos hc]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body iT E d (coordsV ⟨_, hci.1⟩ ⟨_, hci.2⟩) hF (hI d) O W hO hOlev

end Tile

end Cert.Proof.Gather
-- ==== Proof.Split.lean ====
/-
  The call's arrays, whole, against the pieces its tasks take: the indices and the gathered rows are 160 chunks, five to
  each of the 32 tasks; each SparseCore reads the table by half of its share, in five bands, which its first five tiles
  stage; and a SparseCore's shared scratch is those five bands.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Splits

/-- Sixteen pieces of which only the first five are there are those five. -/
theorem first_five (Φ : ℕ → sProp 𝕄) :
    (bigSep Finset.univ fun i : Fin 16 => if i.val < 5 then Φ i.val else iprop(emp)) = bigSep Finset.univ fun k : Fin 5 => Φ k.val := by
  have h5 : (fun k : Fin 5 => (fun i : Fin 16 => if i.val < 5 then Φ i.val else (iprop(emp) : sProp 𝕄)) (k.castLE (by decide))) = fun k => Φ k.val :=
    funext fun k => if_pos k.isLt
  have hrest : (bigSep (Finset.univ \ (Finset.univ : Finset (Fin 5)).image fun k => (k.castLE (by decide) : Fin 16))
      fun i : Fin 16 => if i.val < 5 then Φ i.val else (iprop(emp) : sProp 𝕄)) = iprop(emp) := by
    refine (bigSep_congr fun i hi => if_neg fun h => ?_).trans (bigSep_emp_const _)
    exact (Finset.mem_sdiff.mp hi).2 (Finset.mem_image.mpr ⟨⟨i.val, h⟩, Finset.mem_univ _, rfl⟩)
  rw [SparseCore.bigSep_sdiff_split' (Finset.subset_univ ((Finset.univ : Finset (Fin 5)).image fun k => (k.castLE (by decide) : Fin 16))), hrest,
    SparseCore.bigSep_image_of_injOn (f := fun k : Fin 5 => (k.castLE (by decide) : Fin 16)) (fun a _ b _ h => Fin.castLE_injective _ h), h5]
  exact equiv_iff.mp ⟨sep_emp.1, sep_emp.2⟩

/-- A task's chunks, over SparseCores, tiles and rounds, are all 160 and no two are the same. -/
theorem chunk_lt (z : Fin 2 × Fin 16 × Fin 5) : (2 * z.2.1.val + z.1.val) * 5 + z.2.2.val < 160 := by
  have h0 := z.1.isLt; have h1 := z.2.1.isLt; have h2 := z.2.2.isLt
  omega

theorem chunk_inj {z z' : Fin 2 × Fin 16 × Fin 5} (h : (2 * z.2.1.val + z.1.val) * 5 + z.2.2.val = (2 * z'.2.1.val + z'.1.val) * 5 + z'.2.2.val) : z = z' := by
  obtain ⟨c, i, k⟩ := z; obtain ⟨c', i', k'⟩ := z'
  have h0 := c.isLt; have h2 := k.isLt; have h0' := c'.isLt; have h2' := k'.isLt
  simp only at h
  refine Prod.ext (Fin.ext ?_) (Prod.ext (Fin.ext ?_) (Fin.ext ?_)) <;> simp only <;> omega

theorem chunk_of {t : ℕ} (h : t < 160) : ∃ z : Fin 2 × Fin 16 × Fin 5, (2 * z.2.1.val + z.1.val) * 5 + z.2.2.val = t :=
  ⟨(⟨t / 5 % 2, Nat.mod_lt _ (by decide)⟩, ⟨t / 10, by omega⟩, ⟨t % 5, Nat.mod_lt _ (by decide)⟩), by simp only; omega⟩

variable (d : Dev nD)

/-- The transposed indices, whole, are every task's five chunks of them. -/
theorem i_whole (iT : Dev nD → S20x1024.Idx → BitVec 32) :
    (iLoc d ↦{fullShare} (show Buf (Elt F) (iLoc d) from iT d) : sProp 𝕄)
      = bigSep Finset.univ fun c : Fin 2 => bigSep Finset.univ fun i : Fin 16 => iPts iT d c.val i.val := by
  have hU : (Finset.univ : Finset S20x1024.Idx)
      = Finset.univ.biUnion fun z : Fin 2 × Fin 16 × Fin 5 => iSet ((2 * z.2.1.val + z.1.val) * 5 + z.2.2.val) := Finset.ext fun x => by
    have h0 : (x 0).val < 20 := (x 0).isLt
    have h1 : (x 1).val < 1024 := (x 1).isLt
    obtain ⟨z, hz⟩ := chunk_of (t := (x 0).val * 8 + (x 1).val / 128) (by omega)
    exact iff_of_true (Finset.mem_univ _) (Finset.mem_biUnion.mpr ⟨z, Finset.mem_univ _, mem_iSet.mpr hz.symm⟩)
  refine (congrArg (fun s : Finset S20x1024.Idx => (iLoc d ↦[s]{fullShare} (show Buf (Elt F) (iLoc d) from iT d) : sProp 𝕄)) hU).trans
    ((pointsTo_biUnion Finset.univ (ℓ := iLoc d) (fun z : Fin 2 × Fin 16 × Fin 5 => iSet ((2 * z.2.1.val + z.1.val) * 5 + z.2.2.val))
      (fun z _ z' _ h => by
        rw [Finset.disjoint_left]; intro x hx hx'
        exact h (chunk_inj ((mem_iSet.mp hx).symm.trans (mem_iSet.mp hx'))))).trans ?_)
  rw [bigSep_univ_prod]
  exact bigSep_congr fun c _ => bigSep_univ_prod _

/-- The gathered rows' array, whole, is every task's five chunks of it. -/
theorem o_whole (f : S20480x128.Idx → F .f32) :
    (oLoc d ↦{fullShare} (show Buf (Elt F) (oLoc d) from f) : sProp 𝕄)
      = bigSep Finset.univ fun c : Fin 2 => bigSep Finset.univ fun i : Fin 16 => oPts d c.val i.val f := by
  have hU : (Finset.univ : Finset S20480x128.Idx)
      = Finset.univ.biUnion fun z : Fin 2 × Fin 16 × Fin 5 => oSet ((2 * z.2.1.val + z.1.val) * 5 + z.2.2.val) := Finset.ext fun x => by
    have h0 : (x 0).val < 20480 := (x 0).isLt
    obtain ⟨z, hz⟩ := chunk_of (t := (x 0).val / 128) (by omega)
    exact iff_of_true (Finset.mem_univ _) (Finset.mem_biUnion.mpr ⟨z, Finset.mem_univ _, mem_oSet.mpr hz.symm⟩)
  refine (congrArg (fun s : Finset S20480x128.Idx => (oLoc d ↦[s]{fullShare} (show Buf (Elt F) (oLoc d) from f) : sProp 𝕄)) hU).trans
    ((pointsTo_biUnion Finset.univ (ℓ := oLoc d) (fun z : Fin 2 × Fin 16 × Fin 5 => oSet ((2 * z.2.1.val + z.1.val) * 5 + z.2.2.val))
      (fun z _ z' _ h => by
        rw [Finset.disjoint_left]; intro x hx hx'
        exact h (chunk_inj ((mem_oSet.mp hx).symm.trans (mem_oSet.mp hx'))))).trans ?_)
  rw [bigSep_univ_prod]
  exact bigSep_congr fun c _ => bigSep_univ_prod _

variable (E : Dev nD → S1000x128.Idx → F .f32)

/-- The table at one SparseCore's share is the bands its tiles stage. -/
theorem e_bands (c : ℕ) : (eLoc d ↦{eShare c} (show Buf (Elt F) (eLoc d) from E d) : sProp 𝕄)
    = bigSep Finset.univ fun i : Fin 16 => ePts E d c i.val := by
  have hU : (Finset.univ : Finset S1000x128.Idx) = Finset.univ.biUnion fun k : Fin 5 => eSet k.val := Finset.ext fun x => by
    have hx : (x 0).val < 1000 := (x 0).isLt
    exact iff_of_true (Finset.mem_univ _) (Finset.mem_biUnion.mpr ⟨⟨(x 0).val / 200, by omega⟩, Finset.mem_univ _, mem_eSet.mpr rfl⟩)
  refine Eq.trans ?_ (first_five fun i => ePt E d c i).symm
  exact (congrArg (fun s : Finset S1000x128.Idx => (eLoc d ↦[s]{eShare c} (show Buf (Elt F) (eLoc d) from E d) : sProp 𝕄)) hU).trans
    (pointsTo_biUnion Finset.univ (ℓ := eLoc d) (fun k : Fin 5 => eSet k.val) (fun k _ k' _ h => by
      rw [Finset.disjoint_left]; intro x hx hx'
      exact h (Fin.ext ((mem_eSet.mp hx).symm.trans (mem_eSet.mp hx')))))

/-- The table, whole, is every task's band of it, if the task stages one. -/
theorem e_whole : (eLoc d ↦{fullShare} (show Buf (Elt F) (eLoc d) from E d) : sProp 𝕄)
    = bigSep Finset.univ fun c : Fin 2 => bigSep Finset.univ fun i : Fin 16 => ePts E d c.val i.val := by
  rw [bigSep_fin_two, ← e_bands, ← e_bands, show eShare (0 : Fin 2).val = fullShare.left from if_pos rfl,
    show eShare (1 : Fin 2).val = fullShare.right from if_neg (by decide)]
  have h := pointsTo_share (Ix := HIx 1) (Name := ℕ) (U := UU) (Lvl := ℕ) (ℓ := eLoc d) (I := Finset.univ)
    (f := (show Buf (Elt F) (eLoc d) from E d)) (PosShare.mem_left_op_right fullShare)
  exact equiv_iff.mp ⟨h.1, h.2⟩

variable (iT : Dev nD → S20x1024.Idx → BitVec 32)

/-- What the call takes: the indices, the table and the output array, each whole. -/
theorem go_whole (f : S20480x128.Idx → F .f32) :
    iprop((iLoc d ↦{fullShare} (show Buf (Elt F) (iLoc d) from iT d)) ∗ (eLoc d ↦{fullShare} (show Buf (Elt F) (eLoc d) from E d))
        ∗ (oLoc d ↦{fullShare} (show Buf (Elt F) (oLoc d) from f)))
      ⊢ (bigSep Finset.univ fun c : Fin 2 => bigSep Finset.univ fun i : Fin 16 => goT iT E d c.val i.val : sProp 𝕄) := by
  rw [i_whole, e_whole, o_whole, ← bigSep_sep', ← bigSep_sep']
  refine bigSep_mono fun c _ => ?_
  rw [← bigSep_sep', ← bigSep_sep']
  refine bigSep_mono fun i _ => ?_
  show iprop(iPts iT d c.val i.val ∗ ePts E d c.val i.val ∗ oPts d c.val i.val f) ⊢ goT iT E d c.val i.val
  unfold goT
  iintro ⟨Hi, He, Ho⟩
  isplitl [Hi]; · iexact Hi
  isplitl [He]; · iexact He
  iexists f; iexact Ho

/-- What the call brings back: the same, the output array at the gathered rows, and the tasks' barrier semaphores at zero. -/
theorem td_whole (B : Fin 2 → Fin 16 → sProp 𝕄) :
    (bigSep Finset.univ fun c : Fin 2 => bigSep Finset.univ fun i : Fin 16 => iprop(tdT iT E d c.val i.val ∗ B c i))
      = iprop(((iLoc d ↦{fullShare} (show Buf (Elt F) (iLoc d) from iT d)) ∗ (eLoc d ↦{fullShare} (show Buf (Elt F) (eLoc d) from E d))
        ∗ (oLoc d ↦{fullShare} (show Buf (Elt F) (oLoc d) from gathered (iT d) (E d))))
        ∗ bigSep Finset.univ fun c : Fin 2 => bigSep Finset.univ fun i : Fin 16 => B c i) := by
  rw [i_whole, e_whole, o_whole, ← bigSep_sep', ← bigSep_sep', ← bigSep_sep']
  refine bigSep_congr fun c _ => ?_
  rw [← bigSep_sep', ← bigSep_sep', ← bigSep_sep']
  rfl

/-- A SparseCore's shared scratch, at whatever it holds, is the bands its first five tiles take. -/
theorem sh_go (c : Fin τ.nSC) : iprop(∃ f, shLoc d c ↦{fullShare} f) ⊢ (bigSep Finset.univ fun i : Fin 16 => sGo d c i.val : sProp 𝕄) := by
  iintro ⟨%f, H⟩
  ihave H := (Entails.of_eq (sh_bands d c fullShare f)) $$ H
  iapply (Entails.of_eq (first_five (F := F) fun i => iprop(∃ f, sPt d c i fullShare f)).symm)
  iapply (SparseCore.ent (bigSep_mono (Φ := fun k : Fin 5 => (shLoc d c ↦[eSet k.val]{fullShare} f : sProp 𝕄)) fun k _ =>
    BI.BIClass.exists_intro (Φ := fun f => (sPt d c k.val fullShare f : sProp 𝕄)) f))
  iexact H

/-- What the tiles bring back of it is it whole, at the table. -/
theorem sh_td (c : Fin τ.nSC) :
    iprop((bigSep Finset.univ fun i : Fin 16 => sTd E d c i.val) ∗ bigSep Finset.univ fun i : Fin 16 => sAll E d c i.val)
      ⊢ (iprop(∃ f, shLoc d c ↦{fullShare} f) : sProp 𝕄) := by
  iintro ⟨Hd, Ha⟩
  ihave Hd := (show (bigSep Finset.univ fun i : Fin 16 => sTd E d c i.val)
      ⊢ (bigSep Finset.univ fun k : Fin 5 => sPt d c k.val (Transfers.shareDrop fullShare 16) (E d) : sProp 𝕄) from
    Entails.of_eq (first_five (F := F) fun i => sPt d c i (Transfers.shareDrop fullShare 16) (E d))) $$ Hd
  ihave Hd := (Entails.of_eq (sh_bands d c (Transfers.shareDrop fullShare 16) (E d)).symm) $$ Hd
  iexists (show Buf (Elt F) (shLoc d c) from E d)
  iapply (Transfers.pointsTo_toks_join (ℓ := shLoc d c) (S := Finset.univ) (f := (show Buf (Elt F) (shLoc d c) from E d)) fullShare 16)
  isplitl [Hd]; · iexact Hd
  iexact Ha

/-- The shared scratch is among the sequencer's own buffers: it is it, at some contents, and the rest. -/
theorem ownBufs_S (c : Fin τ.nSC) : (ownBufs (S d c) : sProp 𝕄)
    = iprop((∃ f, shLoc d c ↦{fullShare} f)
      ∗ bigSep ((ownRefs (τ := τ) (.scScalar c)).erase (shRef c)) fun b => iprop(∃ f, ((d, b) : Loc nD τ sig) ↦{fullShare} f)) := by
  unfold SparseCore.Cfg.ownBufs
  exact SparseCore.bigSep_erase' ((mem_ownRefs (p := Proc.scScalar c) (b := shRef c)).mpr rfl)

theorem vecSplit : (K (F := F)).VecSplit (P iT E) 0 := by
  intro d c
  show iprop((bigSep Finset.univ fun i : Fin 16 => goT iT E d c.val i.val) ∗ ownBufs (S d (coreOf c))) ⊢ |={Set.univ}=> iprop(
      (bigSep Finset.univ fun i : Fin 16 => iprop(goT iT E d c.val i.val ∗ sGo d (coreOf c) i.val))
      ∗ ((bigSep Finset.univ fun i : Fin 16 => iprop((tdT iT E d c.val i.val ∗ semVal (bcell d (coreOf c) ((K (F := F)).sub 0 i)) 0)
            ∗ sTd E d (coreOf c) i.val ∗ sAll E d (coreOf c) i.val))
          -∗ iprop((bigSep Finset.univ fun i : Fin 16 => iprop(tdT iT E d c.val i.val ∗ semVal (bcell d (coreOf c) ((K (F := F)).sub 0 i)) 0))
            ∗ ownBufs (S d (coreOf c)))))
  rw [bigSep_sep', bigSep_sep' _ (fun i : Fin 16 => iprop(tdT iT E d c.val i.val ∗ semVal (bcell d (coreOf c) ((K (F := F)).sub 0 i)) 0)),
    bigSep_sep' _ (fun i : Fin 16 => sTd E d (coreOf c) i.val), ownBufs_S]
  iintro ⟨Hgo, Hsh, Hrest⟩; imodintro
  isplitl [Hgo Hsh]
  · isplitl [Hgo]; · iexact Hgo
    iapply (sh_go d (coreOf c)); iexact Hsh
  iintro ⟨Htd, Hsh⟩
  isplitl [Htd]; · iexact Htd
  isplitl [Hsh]; · iapply (sh_td d E (coreOf c)); iexact Hsh
  iexact Hrest

end Splits

end Cert.Proof.Gather
-- ==== Proof.Fund.lean ====
/-
  The launch element of the certificate's ghost state and what the launch hands over from it: the handshakes' rounds, the
  barrier cells' rounds on both SparseCores' tiles, and the rounds of the TensorCore pipeline's staging cells.
-/
module

public import proofs.«01_k».proof.Proof.Split

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Fund
variable (iT : Dev nD → S20x1024.Idx → BitVec 32) (E : Dev nD → S1000x128.Idx → F .f32)

abbrev DCI : Type := Dev nD × Fin τ.nSC × Fin τ.nSub
abbrev bcell₃ (x : DCI) : GSem nD τ sig := bcell x.1 x.2.1 x.2.2

/-- The tiles of the call's grid, of two SparseCores. -/
abbrev tiles : Finset DCI := Finset.univ.filter fun x => x.2.1.val < 2
theorem mem_tiles (d : Dev nD) {c : Fin τ.nSC} (hc : c.val < 2) (i : Fin τ.nSub) : ((d, c, i) : DCI) ∈ tiles := Finset.mem_filter.mpr ⟨Finset.mem_univ _, hc⟩
/-- Their barrier cells: of the free semaphores, the ones taken at the launch. -/
def bCells : Finset (GSem nD τ sig) := tiles.image bcell₃
/-- Tile `i`'s token in tile `j`'s cell, for every two tiles of one SparseCore. -/
def bToks : Finset (GSem nD τ sig × ℕ × ℕ) :=
  (tiles ×ˢ Finset.univ).image fun x : DCI × Fin (grid0.bound 1) => (bcell x.1.1 x.1.2.1 (x.2.castLE hsub0), 0, x.1.2.2.val)

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The component of each, out of the ghost state's element. -/
theorem ownU_parts (a : UH) (b : UB) (r : UR) :
    (ownU ((a, (b, (r, 1))) : UU) : sProp 𝕄) ⊢ iprop(BI.own (EH a) ∗ BI.own (EB b) ∗ BI.own (EP r)) := by
  let ER : Emb (UB × (UR × Counters)) 𝕄 := (Emb.inr : Emb (UB × (UR × Counters)) UU).trans
    (uEmb (nD := nD) (sig := sig) (Ix := HIx 1) (Val := Elt F) (Name := ℕ) (U := UU) (Lvl := ℕ)).toEmb
  have h : (ownU ((a, (b, (r, 1))) : UU) : sProp 𝕄) ⊢ iprop(BI.own (EH a) ∗ BI.own (ER (b, (r, 1)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, (r, (1 : Counters))))))
  have h' : (BI.own (ER (b, (r, 1))) : sProp 𝕄) ⊢ iprop(BI.own (EB b) ∗ BI.own (EP r)) :=
    BI.own_op_elim (ER.op_of_mem (Prod.mk_mem_op (URA.mem_op_one b) (URA.mem_one_op (r, (1 : Counters)))))
  exact h.trans (sep_mono_right h')

/-- Every barrier semaphore of the grid at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e), bigSep_filter]
  refine sep_elim_right.trans (bigSep_mono fun x _ => ?_)
  split
  · next hc =>
    exact bigSep_elim (Φ := fun sm : SemLoc sig => (semVal (V x.1 x.2.1 x.2.2, sm) 0 : sProp 𝕄)) (Finset.mem_filter.mpr
      ⟨Finset.mem_erase.mpr ⟨fun h => bar_ne_go (SemLoc.reg.inj h), Finset.mem_filter.mpr ⟨Finset.mem_univ _, by decide⟩⟩,
        Finset.mem_image_of_mem bcell₃ (mem_tiles x.1 hc x.2.2)⟩)
  · exact fun _ _ => trivial

/-- The barrier cells' invariants, allocated at once. -/
theorem invs_b : iprop((bigSep bCells fun g => (semVal g 0 : sProp 𝕄)) ∗ bigSep bCells fun g => roundState EB (bRd E) g 0)
    ⊢ |={Set.univ}=> iprop(∃ κ : GSem nD τ sig → ℕ, bigSep bCells fun g => cellInv EB (bRd E) (κ g) g) := by
  refine (Rounds.bodies_intro EB (bRd E) bCells).trans ((inv_alloc_family bCells (Rounds.body EB (bRd E)) ∅ (E := Set.univ)).trans ?_)
  iintro H
  imod H with ⟨%κ, -, Hinv⟩
  imodintro; iexists κ; iexact Hinv

theorem sum_units (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

/-- The credit for the tasks' own debts, regrouped: each tile of the grid the sixteen units of its own cell. -/
theorem creds_b : ((P iT E).oxCred : sProp 𝕄) ⊢ bigSep tiles fun x : DCI => cred (tallyAt (bcell₃ x) (some 0) (grid0.bound 1)) := by
  rw [bigSep_filter]
  unfold SparseCore.Cfg.Pay.oxCred
  rw [SparseCore.Cfg.bigSep_threads (fun thr : Thread nD τ => (cred ((P iT E).oxFrom 0 thr) : sProp 𝕄))]
  refine sep_elim_right.trans (sep_elim_right.trans ?_)
  rw [bigSep_univ_prod, bigSep_univ_prod (fun x : DCI => if x.2.1.val < 2 then (cred (tallyAt (bcell₃ x) (some 0) (grid0.bound 1)) : sProp 𝕄) else BI.emp)]
  refine bigSep_mono fun d _ => ?_
  rw [bigSep_univ_prod, bigSep_univ_prod (fun y : Fin τ.nSC × Fin τ.nSub => if y.1.val < 2 then (cred (tallyAt (bcell₃ (d, y)) (some 0) (grid0.bound 1)) : sProp 𝕄) else BI.emp)]
  refine bigSep_mono fun c _ => ?_
  dsimp only
  by_cases hc : c.val < 2
  · simp only [hc, ↓reduceIte]
    have hox : ∀ i, (P iT E).oxFrom 0 (V d c i) = owesBar d c := fun i => by
      rw [show (0 : ℕ) = (0 : Fin 1).val from rfl, (P iT E).oxFrom_step, (P iT E).oxFrom_end _ (n := (0 : Fin 1).val + 1) le_rfl, add_zero]; exact if_pos hc
    simp only [hox]
    unfold owesBar
    rw [SparseCore.Cfg.cred_finsum, bigSep_univ_comm]
    refine bigSep_mono fun j _ => ?_
    rw [← SparseCore.Cfg.cred_finsum, sum_units]; rfl
  · simp only [hc, ↓reduceIte]
    exact bigSep_mono fun _ _ => fun _ _ => trivial

theorem toks_eq : (bigSep bToks fun x => (dutyTok EB x.1 x.2.1 x.2.2 : sProp 𝕄))
    = bigSep tiles fun x : DCI => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  obtain ⟨e1, e2⟩ := Prod.mk.inj e
  obtain ⟨rfl, h⟩ := Prod.mk.inj (Prod.mk.inj e1).1
  obtain ⟨rfl, hj⟩ := Proc.scVector.inj h
  obtain rfl : j = j' := Fin.ext (congrArg Fin.val hj)
  obtain rfl : i = i' := Fin.ext (Prod.mk.inj e2).2
  rfl

theorem bCells_eq (Φ : GSem nD τ sig → sProp 𝕄) : bigSep bCells Φ = bigSep tiles fun x : DCI => Φ (bcell₃ x) :=
  SparseCore.bigSep_image_of_injOn (fun a _ b _ e => bcell₃_injective e) Φ

/-- What every tile of the grid is handed alike: the barrier cells' invariants, and that each has reached round 0. -/
abbrev forAll (κ : GSem nD τ sig → ℕ) : sProp 𝕄 :=
  iprop((bigSep tiles fun x : DCI => cellInv EB (bRd E) (κ (bcell₃ x)) (bcell₃ x)) ∗ bigSep tiles fun x : DCI => reached EB (bcell₃ x) 0)

/-- One tile's kit, out of those and its own position, tokens and credit. -/
theorem kit_intro (κ : GSem nD τ sig → ℕ) (x : DCI) (h : x ∈ tiles) :
    iprop(forAll E κ ∗ atPos EB (bcell₃ x) 0 ∅ 0
        ∗ (bigSep Finset.univ fun j : Fin (grid0.bound 1) => dutyTok EB (bcell x.1 x.2.1 (j.castLE hsub0)) 0 x.2.2.val)
        ∗ cred (tallyAt (bcell₃ x) (some 0) (grid0.bound 1)))
      ⊢ (bkit E x.1 x.2.1 x.2.2 : sProp 𝕄) := by
  obtain ⟨d, c, i⟩ := x
  have hc : c.val < 2 := (Finset.mem_filter.mp h).2
  iintro ⟨⟨#Hinv, #Hr⟩, Hat, Htok, Hcred⟩
  unfold bkit
  isplitr
  · iexists κ
    iapply (bigSep_intro_persistent (S := (Finset.univ : Finset (Fin (grid0.bound 1))))
      (R := bigSep tiles fun x : DCI => cellInv EB (bRd E) (κ (bcell₃ x)) (bcell₃ x)) fun j _ =>
        SparseCore.ent (bigSep_elim (Φ := fun x : DCI => (cellInv EB (bRd E) (κ (bcell₃ x)) (bcell₃ x) : sProp 𝕄)) (mem_tiles d hc (Fin.castLE hsub0 j))))
    iexact Hinv
  isplitl [Htok]; · iexact Htok
  isplitr
  · iapply (bigSep_intro_persistent (S := (Finset.univ : Finset (Fin (grid0.bound 1))))
      (R := bigSep tiles fun x : DCI => reached EB (bcell₃ x) 0) fun j _ =>
        SparseCore.ent (bigSep_elim (Φ := fun x : DCI => (reached EB (bcell₃ x) 0 : sProp 𝕄)) (mem_tiles d hc (Fin.castLE hsub0 j))))
    iexact Hr
  isplitl [Hat]; · iexact Hat
  iexact Hcred

theorem x_T (d : Dev nD) : (bigSep Finset.univ fun q : Fin 1 => (P iT E).x q (SparseCore.T d)) = iprop(emp) := bigSep_univ_of_subsingleton (0 : Fin 1)
theorem x_S (d : Dev nD) (c : Fin τ.nSC) : (bigSep Finset.univ fun q : Fin 1 => (P iT E).x q (S d c)) = iprop(emp) := bigSep_univ_of_subsingleton (0 : Fin 1)
theorem x_V (d : Dev nD) (c : Fin τ.nSC) (i : Fin τ.nSub) :
    (bigSep Finset.univ fun q : Fin 1 => (P iT E).x q (V d c i)) = if c.val < 2 then bkit E d c i else iprop(emp) := bigSep_univ_of_subsingleton (0 : Fin 1)

/-- Each tile of the grid its kit. -/
theorem kits_deal (κ : GSem nD τ sig → ℕ) :
    iprop(forAll E κ ∗ (bigSep tiles fun x : DCI => atPos EB (bcell₃ x) 0 ∅ 0)
        ∗ (bigSep tiles fun x : DCI => bigSep Finset.univ fun j : Fin (grid0.bound 1) => dutyTok EB (bcell x.1 x.2.1 (j.castLE hsub0)) 0 x.2.2.val)
        ∗ (bigSep tiles fun x : DCI => cred (tallyAt (bcell₃ x) (some 0) (grid0.bound 1))))
      ⊢ (bigSep Finset.univ fun thr : Thread nD τ => bigSep Finset.univ fun q : Fin 1 => (P iT E).x q thr : sProp 𝕄) := by
  rw [SparseCore.Cfg.bigSep_threads (fun thr : Thread nD τ => bigSep Finset.univ fun q : Fin 1 => (P iT E).x q thr)]
  simp only [x_T, x_S, x_V]
  iintro ⟨#Hsh, H⟩
  isplitr; · iapply (Entails.of_eq (bigSep_emp_const _).symm); iempintro
  isplitr; · iapply (Entails.of_eq (bigSep_emp_const _).symm); iempintro
  iapply (SparseCore.ent (Entails.of_eq (bigSep_filter Finset.univ (fun x : DCI => x.2.1.val < 2) fun x => bkit E x.1 x.2.1 x.2.2)))
  iapply (bigSep_with_persistent (R := forAll E κ) fun x h => kit_intro E κ x h)
  isplitr; · iexact Hsh
  rw [bigSep_sep', bigSep_sep']
  iexact H

/-! ## The pipeline's cells -/

variable [FloatOps F]

/-- The pipeline's one configuration, on every device. -/
abbrev adm : (p : Fin 1) → (pcfgs (F := F) p).Adm := fun p => (cfgs p).toPCfg_adm
theorem cells_inj : Function.Injective (Pipeline.cellOf (nD := nD) (τ := τ) (Pipeline.pin (pcfgs (F := F)) adm)) := cellOf_inj

/-- What the TensorCore is dealt: its staging cells' rounds and the tokens of its transfers. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks, (initOf bCells bToks,
  (initOf (Pipeline.cells (Pipeline.pin (pcfgs (F := F)) adm) cells_inj) (Pipeline.launchToks (Pipeline.pin (pcfgs (F := F)) adm) cells_inj), 1)))

theorem hu₀ : iprop(ownU (u₀ (F := F)) ∗ (P iT E).oxCred ∗ (K (F := F)).freeOn (· ∈ bCells))
    ⊢ |={Set.univ}=> iprop(BI.own (EH (initOf (K (F := F)).hsCells (K (F := F)).hsToks)) ∗ (bigSep Finset.univ fun d : Dev nD => G d)
        ∗ (bigSep Finset.univ fun thr : Thread nD τ => bigSep Finset.univ fun q : Fin 1 => (P iT E).x q thr) : sProp 𝕄) := by
  unfold u₀
  iintro ⟨Hu, Hcred, Hfree⟩
  ihave H := (ownU_parts _ _ _) $$ Hu
  icases H with ⟨HH, HB, HP⟩
  imod (Rounds.fund EB (bRd E) bCells bToks) $$ HB with ⟨Hst, #Hr, Hat, Htok⟩
  imod (Pipeline.fund_ghost (Pipeline.pin (pcfgs (F := F)) adm) EP cells_inj) $$ HP with ⟨Hgh, Htk⟩
  ihave Hsems := sems_b $$ Hfree
  imod (invs_b E) $$ [Hsems Hst] with ⟨%κ, #Hinv⟩
  · isplitl [Hsems] <;> iassumption
  ihave Hcred' := (creds_b iT E) $$ Hcred
  ihave Hinv' := (Entails.of_eq (bCells_eq (F := F) fun g => cellInv EB (bRd E) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hgh Htk]
  · unfold G
    rw [bigSep_sep']
    isplitl [Hgh]
    · iapply (SparseCore.ent (bigSep_mono (Φ := fun d : Dev nD => bigSep Finset.univ fun p : Fin 1 => Pipeline.cellsGhost (Pipeline.pin (pcfgs (F := F)) adm) EP p d) fun d _ =>
        Entails.of_eq (bigSep_univ_of_subsingleton (0 : Fin 1))))
      iexact Hgh
    · iapply (SparseCore.ent (bigSep_mono (Φ := fun d : Dev nD => bigSep Finset.univ fun p : Fin 1 => Pipeline.toksInit (Pipeline.pin (pcfgs (F := F)) adm) EP p d) fun d _ =>
        Entails.of_eq (bigSep_univ_of_subsingleton (0 : Fin 1))))
      iexact Htk
  iapply (kits_deal iT E κ)
  isplitr
  · isplitl; · iexact Hinv'
    iexact Hr'
  isplitl [Hat']; · iexact Hat'
  isplitl [Htok']; · iexact Htok'
  iexact Hcred'

end Fund

end Cert.Proof.Gather
-- ==== Proof.Block.lean ====
/-
  The TensorCore half: the matrix product's body at one grid point, and the pipelined region around it.

  `bodyWp` runs the body once, at any four whole staging buffers: from the twenty slabs `X`, the weights `W` and the
  bias column `B` it leaves `tcOut X W B` in the result's buffer. `mmDat` is the region's proof data from any
  contents of the arrays, `mm_body` its body obligation, and `mmSeg` the region entered from and left to a set of
  held buffers.
-/
module

public import proofs.«01_k».proof.Proof.Fund
public import proofs.«01_k».proof.Proof.Gen.KernelIdeal.Skeleton
public import Idealize.ShloMosaic.Lib.Tactic
public import Idealize.ShloMosaic.Lib.Pipeline.FrameBody
public import Idealize.ShloMosaic.Lib.Pipeline.RegionArraysS

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
open Idealize.ShloMosaic.TcCoe
open Idealize.ShloMosaic.Pipeline (Dat BodyObligation BodyObligationLoose)

section Block
variable [FloatOps F]

/-- Slab `l` of the twenty, as the body loads it. -/
def slab (X : S20x512x128.Idx → Elt F .f32) (l : Fin 20) : Vec F S1x512x128 .f32 :=
  fun y => X ((Rect.unit (s := S20x512x128) ![l.val, 0, 0] S1x512x128.size (by
    intro a; have := l.isLt; fin_cases a
    · show l.val + 1 ≤ 20; omega
    · exact le_refl 512
    · exact le_refl 128)).toLoadRect.idx y)

/-- Slab `l` without its unit axis. -/
def flat (X : S20x512x128.Idx → Elt F .f32) (l : Fin 20) : FVec F S512x128 .f32 :=
  shapeCast S512x128 (slab X l) shapeCasts_S1x512x128_S512x128

/-- The twenty slabs side by side, as the body joins them. -/
def wide (X : S20x512x128.Idx → Elt F .f32) : FVec F S512x2560 .f32 :=
  concatenate S512x2560 1 (List.ofFn fun l : Fin 20 => ⟨S512x128, flat X l⟩)
    concatenates_S512x128_S512x128_S512x128_S512x128_S512x128_S512x128_S512x128_S512x128_S512x128_S512x128_S512x128_S512x128_S512x128_S512x128_S512x128_S512x128_S512x128_S512x128_S512x128_S512x128_S512x2560_d1

/-- What the body leaves in the result's block: the weights times the joined slabs, and the bias column added. -/
def tcOut (X : S20x512x128.Idx → Elt F .f32) (W : S1000x2560.Idx → Elt F .f32) (B : S1000x1.Idx → Elt F .f32) : FVec F S1000x512 .f32 :=
  k1_pay2 (wide X) W B

omit [FloatOps F] in
/-- A load of all of a rank-two buffer, from its first element, reads the buffer. -/
theorem readAt_all {R C : ℕ} (M : Memref sig .tc .vmem ⟨2, ![R, C]⟩ .f32) (h : ∀ a, (![0, 0] : Fin 2 → ℕ) a + (⟨2, ![R, C]⟩ : Shape).size a ≤ (⟨2, ![R, C]⟩ : Shape).size a)
    (f : M.view.ty.Contents (Elt F)) :
    View.readAt (Elt F) M.view (Rect.unit (s := ⟨2, ![R, C]⟩) ![0, 0] (⟨2, ![R, C]⟩ : Shape).size h).toLoadRect f = M.view.read (Elt F) f := by
  funext y
  rw [View.readAt_apply]
  congr 1
  funext a; apply Fin.ext
  show (![0, 0] : Fin 2 → ℕ) a + 1 * (y a).val = (y a).val
  fin_cases a <;> simp

/-- The body, once: the inputs' buffers as they were, `tcOut` of them in the result's, whatever it held. -/
theorem bodyWp (c : Dev nD) (i : grid1.Coords)
    (M0 : Memref sig .tc .vmem S20x512x128 .f32) (h0 : M0.IsWhole) (M1 : Memref sig .tc .vmem S1000x2560 .f32) (h1 : M1.IsWhole)
    (M2 : Memref sig .tc .vmem S1000x1 .f32) (h2 : M2.IsWhole) (M3 : Memref sig .tc .vmem S1000x512 .f32) (h3 : M3.IsWhole)
    (X : S20x512x128.Idx → Elt F .f32) (W : S1000x2560.Idx → Elt F .f32) (B : S1000x1.Idx → Elt F .f32) (Y : S1000x512.Idx → Elt F .f32)
    (E : Set ℕ) (Q : PUnit → sProp 𝕄) :
    iprop(owns (c : Thread nD τ) M0 fullShare X ∗ owns (c : Thread nD τ) M1 fullShare W ∗ owns (c : Thread nD τ) M2 fullShare B ∗ owns (c : Thread nD τ) M3 fullShare Y
        ∗ (iprop(owns (c : Thread nD τ) M0 fullShare X ∗ owns (c : Thread nD τ) M1 fullShare W ∗ owns (c : Thread nD τ) M2 fullShare B
            ∗ owns (c : Thread nD τ) M3 fullShare (tcOut X W B)) -∗ Q ⟨⟩))
      ⊢ wp frame (wpE (defs₀ (F := F)) 𝒱₀ c none) E (cc1__matmul_body i M0 h0 M1 h1 M2 h2 M3 h3) Q := by
  unfold owns
  rw [h0.set_eq_univ, h1.set_eq_univ, h2.set_eq_univ, h3.set_eq_univ, cc1__matmul_body_eq_skeleton]
  iintro ⟨⟨%f0, %e0, H0⟩, ⟨%f1, %e1, H1⟩, ⟨%f2, %e2, H2⟩, ⟨%f3, -, H3⟩, Hk⟩
  sl_exec!
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _
  isplitr; swap
  · iexact H3
  ipureintro
  unfold bodyWp.sl.H3_1
  rw [readAt_all, readAt_all, e1, e2]
  have ev : bodyWp.sl.v40 c M0 f0 = wide X := by
    subst e0; rfl
  rw [ev]
  funext y
  have h := View.read_writes_cons_emb (Val := Elt F) M3.view M3.view.junk (Rect.unit (s := S1000x512) ![0, 0] S1000x512.size inb_S1000x512_S1000x512_0_0) (k1_pay2 (wide X) W B) [] y
  have hy : (Rect.unit (s := S1000x512) ![0, 0] S1000x512.size inb_S1000x512_S1000x512_0_0).emb y = y := by
    funext a; apply Fin.ext
    show (![0, 0] : Fin 2 → ℕ) a + 1 * (y a).val = (y a).val
    fin_cases a <;> simp
  rw [hy] at h
  exact h

/-! ## The region's proof data -/

variable (V : Dev nD → Valuation τ sig (Elt F))

/-- The part of window `w`'s array that point `t` stages. -/
abbrev blk (c : Dev nD) (w : Pipeline.Window sig grid1) (t : Fin grid1.N) : (w.xblock (grid1.coords t)).Idx → Elt F w.elt :=
  (w.blk t).view.read (Elt F) (V c (Proc.devRef .tc w.arr.view.ref))

/-- What point `t` writes of the result. -/
def outBlk (c : Dev nD) (t : Fin grid1.N) : S1000x512.Idx → Elt F .f32 := tcOut (blk V c win1_0 t) (blk V c win1_1 t) (blk V c win1_2 t)

/-- The region's proof data: the arrays at `V`; after the body the inputs' buffers as staged and the result's at
    `outBlk`; no other resource, nothing owed. -/
def mmDat (c : Dev nD) : Dat τ (Elt F) (HIx 1) ℕ UU ℕ cfg1 c where
  A w := V c (Proc.devRef .tc (cfg1.win w).arr.view.ref)
  after w t := match w with
    | ⟨0, _⟩ => blk V c win1_0 t
    | ⟨1, _⟩ => blk V c win1_1 t
    | ⟨2, _⟩ => blk V c win1_2 t
    | ⟨3, _⟩ => outBlk V c t
  Φ _ := BI.emp
  q _ := fullShare
  owed _ := 0

theorem before_0 (c : Dev nD) (t : Fin cfg1.N) (d) : (mmDat V c).before 0 t d = blk V c win1_0 t :=
  Dat.before_in_eq_fetched (mmDat V c) 0 rfl (fun _ => rfl) (fun _ _ _ => rfl) (fun _ => rfl) t d
theorem before_1 (c : Dev nD) (t : Fin cfg1.N) (d) : (mmDat V c).before 1 t d = blk V c win1_1 t :=
  Dat.before_in_eq_fetched (mmDat V c) 1 rfl (fun _ => rfl) (fun _ _ _ => rfl) (fun _ => rfl) t d
theorem before_2 (c : Dev nD) (t : Fin cfg1.N) (d) : (mmDat V c).before 2 t d = blk V c win1_2 t :=
  Dat.before_in_eq_fetched (mmDat V c) 2 rfl (fun _ => rfl) (fun _ _ _ => rfl) (fun _ => rfl) t d

/-- The body obligation: at every point the staged blocks in, `outBlk` out. -/
theorem mm_body (c : Dev nD) : BodyObligation (mmDat V c) (defs₀ (F := F)) 𝒱₀ (none : HIx 1) Set.univ := fun t => by
  rw [bigSep_W1, bigSep_W1, show (mmDat V c).Φ t.castSucc = BI.emp from rfl, show (mmDat V c).Φ t.succ = BI.emp from rfl,
    show (mmDat V c).owesAt none t.succ = (mmDat V c).owesAt none t.castSucc from rfl]
  iintro ⟨HΦ, Howes, ⟨%d0, H0⟩, ⟨%d1, H1⟩, ⟨%d2, H2⟩, ⟨%d3, H3⟩⟩
  ihave H0 := (Entails.of_eq (congrArg _ (before_0 V c t d0))) $$ H0
  ihave H1 := (Entails.of_eq (congrArg _ (before_1 V c t d1))) $$ H1
  ihave H2 := (Entails.of_eq (congrArg _ (before_2 V c t d2))) $$ H2
  iapply (bodyWp c (grid1.coords t) _ _ _ _ _ _ _ _ (blk V c win1_0 t) (blk V c win1_1 t) (blk V c win1_2 t) _ Set.univ _) $$ [-]
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The region as a segment over any set `S` of held buffers that contains its arrays. -/
def mmSeg (S : Finset (DevRef τ sig)) :
    Pipeline.RegionSeg (pcfgs (F := F)) adm (fun _ c => mmDat V c) (none : HIx 1) (defs₀ (F := F)) 𝒱₀ (K (F := F)).L (K (F := F)).lev 0 :=
  Pipeline.RegionSeg.ofHeldIn (pcfgs (F := F)) adm (fun _ c => mmDat V c) none (defs₀ (F := F)) 𝒱₀ (K (F := F)).L (K (F := F)).lev 0 (fun _ => 0) S
    (fun _ => BI.emp) (fun _ => BI.emp) launch1.toP rfl (fun c => (mm_body V c).loose) (fun _ _ => rfl) (fun _ => rfl)
    (fun c => (mmDat V c).share_full fun _ => rfl)
    (fun c => sep_elim_right) (fun c => by
      show BI.emp ⊢ iprop(Pipeline.scopedRest spec1 c ∗ BI.emp)
      rw [scopedRest1_eq]
      iintro -
      isplitl <;> iempintro) (fun _ => 0)
    ⟨fun c w s => Finset.mem_univ _, fun c w s => le_refl 0, fun c g i h => absurd h (lt_irrefl _)⟩ (fun _ => BI.emp) V (fun c w => rfl)

/-- The region's arrays are among the unscoped ones. -/
theorem arr_sub : Pipeline.arrRefs (τ := τ) (pcfgs (F := F) 0).spec ⊆ Pipeline.ucRefs τ sig :=
  Pipeline.arrRefs_sub_ucRefs _ (show ∀ w : Fin 4, (Pipeline.arrRef spec1 w).isScoped = false by decide)

theorem seg_pre (d : Dev nD) : iprop(StableHlo.held (d.tc : Thread nD τ) (Pipeline.ucRefs τ sig) (V d) ∗ ∃ W, owes (d.tc : Thread nD τ) 0 W)
    ⊢ ((mmSeg V (Pipeline.ucRefs τ sig)).pre d : sProp 𝕄) := by
  have hS := arr_sub (F := F)
  unfold mmSeg
  refine BIBase.Entails.trans ?_ (Pipeline.RegionSeg.ofHeldIn_pre (pcs := pcfgs (F := F)) (a := adm) (pdats := fun _ c => mmDat V c) (ι := none) (defs₀ := defs₀ (F := F)) (𝒱₀ := 𝒱₀)
    (L := (K (F := F)).L) (lv := (K (F := F)).lev) (p := 0) (D := fun _ => 0) (S := Pipeline.ucRefs τ sig) (X := fun _ => BI.emp) (Y := fun _ => BI.emp)
    (R := fun _ => BI.emp) (W := V) ?_ d)
  case refine_2 => exact hS
  iintro ⟨Hu, HO⟩
  isplitl [Hu]; · iexact Hu
  isplitl [HO]; · iexact HO
  isplitl <;> iempintro

theorem seg_post (d : Dev nD) : ((mmSeg V (Pipeline.ucRefs τ sig)).post d : sProp 𝕄)
    ⊢ iprop(StableHlo.held (d.tc : Thread nD τ) (Pipeline.ucRefs τ sig) (Pipeline.afterRegion (mmDat V d) (V d)) ∗ ∃ W, owes (d.tc : Thread nD τ) 0 W) := by
  have hS := arr_sub (F := F)
  unfold mmSeg
  refine (Pipeline.RegionSeg.ofHeldIn_post (pcs := pcfgs (F := F)) (a := adm) (pdats := fun _ c => mmDat V c) (ι := none) (defs₀ := defs₀ (F := F)) (𝒱₀ := 𝒱₀)
    (L := (K (F := F)).L) (lv := (K (F := F)).lev) (p := 0) (D := fun _ => 0) (S := Pipeline.ucRefs τ sig) (X := fun _ => BI.emp) (Y := fun _ => BI.emp)
    (R := fun _ => BI.emp) (W := V) ?_ d).trans ?_
  case refine_1 => exact hS
  iintro ⟨Hu, HO, -, -⟩
  isplitl [Hu]; · iexact Hu
  iexact HO

/-- The matrix product's call under its own table of bodies. -/
theorem region_inner [∀ e, Nonempty (Elt F e)] (d : Dev nD) (Q : PUnit.{1} → sProp 𝕄) :
    iprop((iprop(boundary (d.tc : Thread nD τ) ∗ (mmSeg V (Pipeline.ucRefs τ sig)).post d) -∗ Q ⟨⟩)
        ∗ boundary (d.tc : Thread nD τ) ∗ (mmSeg V (Pipeline.ucRefs τ sig)).pre d ∗ levAts (K (F := F)).L (K (F := F)).lev ∗ G (F := F) d)
      ⊢ wp frame (wpE (D (F := F)) 𝒱 (d.tc : Thread nD τ) none) Set.univ (.op (.customCall (Pipeline.entry 0) ()) fun a => .ret a) Q := by
  refine BIBase.Entails.trans ?_ (Pipeline.RegionSeg.wp (pcfgs (F := F)) adm (fun _ c => mmDat V c) (none : HIx 1) cells_inj EP (defs₀ (F := F)) 𝒱₀
    (K (F := F)).L (K (F := F)).lev (p := 0) (mmSeg V (Pipeline.ucRefs τ sig)) d none (fun _ h => absurd h (Option.not_mem_none _)) (fun a => .ret a) Q)
  unfold G
  iintro ⟨Hk, Hb, Hp, Hlev, Hg, Ht⟩
  isplitl [Hk]
  · iintro H
    rw [wp_ret]; imodintro
    iapply Hk
    iexact H
  isplitl [Hb]; · iexact Hb
  isplitl [Hp]; · iexact Hp
  isplitl [Hlev]; · iexact Hlev
  isplitl [Hg]; · iexact Hg
  iexact Ht

/-- The matrix product's call in @main: from every array at `V` to every array at what the region leaves. -/
theorem region [∀ e, Nonempty (Elt F e)] (d : Dev nD) (Q : PUnit.{1} → sProp 𝕄) :
    iprop(boundary (SparseCore.T d) ∗ StableHlo.held (d.tc : Thread nD τ) (Pipeline.ucRefs τ sig) (V d) ∗ (∃ W, owes (SparseCore.T d) 0 W)
        ∗ levAts (K (F := F)).L (K (F := F)).lev ∗ G (F := F) d
        ∗ (iprop(boundary (SparseCore.T d) ∗ StableHlo.held (d.tc : Thread nD τ) (Pipeline.ucRefs τ sig) (Pipeline.afterRegion (mmDat V d) (V d))
            ∗ (∃ W, owes (SparseCore.T d) 0 W)) -∗ Q ⟨⟩))
      ⊢ wp frame (wpE ((K (F := F)).defs (D (F := F))) 𝒱 (SparseCore.T d) none) Set.univ
          (Prog.lift (.customCall (SparseCore.inner (Pipeline.entry 0)) ())) Q := by
  have h := (region_inner V d Q).trans ((K (F := F)).wp_liftProg (D (F := F)) 𝒱 (SparseCore.T d) Set.univ none _ Q)
  refine BIBase.Entails.trans ?_ h
  iintro ⟨Hb, Hu, HO, Hlev, HG, Hk⟩
  isplitl [Hk]
  · iintro ⟨Hb, Hp⟩
    ihave Hp := (seg_post V d) $$ Hp
    icases Hp with ⟨Hu, HO⟩
    iapply Hk
    isplitl [Hb]; · iexact Hb
    isplitl [Hu]; · iexact Hu
    iexact HO
  isplitl [Hb]; · iexact Hb
  isplitl [Hu HO]
  · iapply (seg_pre V d)
    isplitl [Hu]; · iexact Hu
    iexact HO
  isplitl [Hlev]; · iexact Hlev
  iexact HG

end Block

end Cert.Proof.Gather
-- ==== Proof.Main.lean ====
/-
  The program's run on the TensorCore, and the machine's.

  `V0` … `V5` are the contents of a device's arrays between @main's lines: at the launch, after the indices are
  transposed, after the SparseCore call, after the two reshapes, after the matrix product's region, and at the end.
  `hmain` runs @main through them, `run_main` is the whole machine's run for any float values: the arguments as they
  were, the result `V5`'s, every semaphore at zero.
-/
module

public import proofs.«01_k».proof.Proof.Block

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
open Idealize.ShloMosaic.TcCoe
open Idealize.ShloMosaic.Pipeline (afterRegion ucRefs)

section Main
variable [FloatOps F] (m : (ℓ : Loc nD τ sig) → Buf (Elt F) ℓ) (ρ : Dev nD → PrngReg)

/-! ## The contents between @main's lines -/

abbrev tIdx : HloOp τ sig (Elt F) := StableHlo.unary main_arg0 main_v0 ((transpose S20x1024 [1, 0] · transposes_S1024x20_S20x1024_1_0) : (⟨S1024x20, .i32⟩ : BufTy).Contents (Elt F) → (⟨S20x1024, .i32⟩ : BufTy).Contents (Elt F))
abbrev rRows : HloOp τ sig (Elt F) := StableHlo.reshape main_v1 main_v2 (rfl : (.f32 : EltTy) = .f32) shapeCasts_S20480x128_S20x1024x128
abbrev rBias : HloOp τ sig (Elt F) := StableHlo.reshape main_arg3 main_v3 (rfl : (.f32 : EltTy) = .f32) shapeCasts_S1000_S1000x1
abbrev tOut : HloOp τ sig (Elt F) := StableHlo.unary main_v4 main_v5 ((transpose S1024x1000 [1, 0] · transposes_S1000x1024_S1024x1000_1_0) : (⟨S1000x1024, .f32⟩ : BufTy).Contents (Elt F) → (⟨S1024x1000, .f32⟩ : BufTy).Contents (Elt F))

abbrev rf (b : Ref sig .tc) : DevRef τ sig := Proc.devRef .tc b

def V0 (d : Dev nD) : Valuation τ sig (Elt F) := fun b => m (d, b)
def V1 (d : Dev nD) : Valuation τ sig (Elt F) := (tIdx (F := F)).result (V0 m d)
/-- The indices the SparseCore call is given. -/
def iT (d : Dev nD) : S20x1024.Idx → BitVec 32 := V1 m d (rf main_v0)
/-- The table. -/
def tab (d : Dev nD) : S1000x128.Idx → F .f32 := V1 m d (rf main_arg1)
def V2 (d : Dev nD) : Valuation τ sig (Elt F) := Function.update (V1 m d) (rf main_v1) (gathered (iT m d) (tab m d))
def V3 (d : Dev nD) : Valuation τ sig (Elt F) := (rBias (F := F)).result ((rRows (F := F)).result (V2 m d))
def V4 (d : Dev nD) : Valuation τ sig (Elt F) := afterRegion (mmDat (V3 m) d) (V3 m d)
def V5 (d : Dev nD) : Valuation τ sig (Elt F) := (tOut (F := F)).result (V4 m d)

/-- The three arrays the SparseCore call takes. -/
abbrev T3 : Finset (DevRef τ sig) := {rf main_v0, rf main_arg1, rf main_v1}

omit [FloatOps F] in
theorem mem_uc (b : Ref sig .tc) (h : b.isScoped = false) : rf b ∈ ucRefs τ sig :=
  Finset.mem_filter.mpr ⟨StableHlo.devRef_mem_tcRefs _, fun h' => Bool.false_ne_true (h.symm.trans h')⟩

theorem T3_sub : T3 ⊆ ucRefs τ sig := by
  intro b hb
  simp only [T3, Finset.mem_insert, Finset.mem_singleton] at hb
  rcases hb with rfl | rfl | rfl
  · exact mem_uc main_v0 rfl
  · exact mem_uc main_arg1 rfl
  · exact mem_uc main_v1 rfl

theorem held_T3 (d : Dev nD) (W : Valuation τ sig (Elt F)) :
    (StableHlo.held (d.tc : Thread nD τ) T3 W : sProp 𝕄)
      = iprop((iLoc d ↦{fullShare} W (rf main_v0)) ∗ (eLoc d ↦{fullShare} W (rf main_arg1)) ∗ (oLoc d ↦{fullShare} W (rf main_v1))) := by
  unfold StableHlo.held
  rw [SparseCore.bigSep_insert' (by decide), SparseCore.bigSep_insert' (by decide), bigSep_singleton]

/-- The barrier's semaphores of every tile, at zero. -/
abbrev bars (d : Dev nD) : sProp 𝕄 :=
  bigSep Finset.univ fun c : Fin 2 => bigSep Finset.univ fun i : Fin 16 => semVal (bcell d (coreOf (F := F) c) ((K (F := F)).sub 0 i)) 0

abbrev FIN (d : Dev nD) : sProp 𝕄 := iprop(StableHlo.held (d.tc : Thread nD τ) (ucRefs τ sig) (V5 m d) ∗ bars (F := F) d)

/-- The SparseCore call, from every array at `V1` to every array at `V2`. -/
theorem call_in (d : Dev nD) : (StableHlo.held (d.tc : Thread nD τ) (ucRefs τ sig) (V1 m d) : sProp 𝕄)
    ⊢ iprop((bigSep Finset.univ fun c : Fin ((K (F := F)).nCore 0) => (P (iT m) (tab m)).st 0 d c)
        ∗ StableHlo.held (d.tc : Thread nD τ) (ucRefs τ sig \ T3) (V1 m d)) := by
  rw [StableHlo.held_sub_split (d.tc : Thread nD τ) T3_sub (V1 m d), held_T3]
  iintro ⟨H, Hr⟩
  isplitl [H]
  · iapply (show _ ⊢ (bigSep Finset.univ fun c : Fin ((K (F := F)).nCore 0) => (P (iT m) (tab m)).st 0 d c : sProp 𝕄)
      from go_whole d (tab m) (iT m) (V1 m d (rf main_v1)))
    iexact H
  iexact Hr

theorem call_out (d : Dev nD) : iprop((bigSep Finset.univ fun c : Fin ((K (F := F)).nCore 0) => (P (iT m) (tab m)).dn 0 d c)
        ∗ StableHlo.held (d.tc : Thread nD τ) (ucRefs τ sig \ T3) (V1 m d))
    ⊢ (iprop(StableHlo.held (d.tc : Thread nD τ) (ucRefs τ sig) (V2 m d) ∗ bars (F := F) d) : sProp 𝕄) := by
  rw [StableHlo.held_sub_split (d.tc : Thread nD τ) T3_sub (V2 m d), held_T3]
  have hrest : (StableHlo.held (d.tc : Thread nD τ) (ucRefs τ sig \ T3) (V2 m d) : sProp 𝕄) = StableHlo.held (d.tc : Thread nD τ) (ucRefs τ sig \ T3) (V1 m d) :=
    StableHlo.held_congr _ fun b hb => by
      unfold V2
      rw [Function.update_of_ne]
      rintro rfl
      exact (Finset.mem_sdiff.mp hb).2 (by simp [T3])
  rw [hrest]
  have h0 : V2 m d (rf main_v0) = iT m d := Function.update_of_ne (by decide) _ _
  have h1 : V2 m d (rf main_arg1) = tab m d := Function.update_of_ne (by decide) _ _
  have h2 : V2 m d (rf main_v1) = gathered (iT m d) (tab m d) := Function.update_self _ _ _
  rw [h0, h1, h2]
  iintro ⟨H, Hr⟩
  ihave H := (show (bigSep Finset.univ fun c : Fin ((K (F := F)).nCore 0) => (P (iT m) (tab m)).dn 0 d c : sProp 𝕄) ⊢ _
    from Entails.of_eq (td_whole d (tab m) (iT m) fun c i => semVal (bcell d (coreOf (F := F) c) ((K (F := F)).sub 0 i)) 0)) $$ H
  icases H with ⟨H, Hb⟩
  isplitl [H Hr]
  · isplitl [H]; · iexact H
    iexact Hr
  iexact Hb

/-! ## @main -/

/-- The TensorCore's state after the call, but for what it owes and has recorded. -/
theorem tcSt_one (d : Dev nD) : ((K (F := F)).tcSt EH d 1 : sProp 𝕄)
    ⊢ iprop((∃ W, owes (SparseCore.T d) 0 W) ∗ ((∃ W, owes (SparseCore.T d) 0 W) -∗ (K (F := F)).tcSt EH d 1)) := by
  have hO : (K (F := F)).Otc d 1 = 0 := by
    unfold SparseCore.Cfg.Otc
    exact Finset.sum_eq_zero fun q _ => if_neg (by omega)
  unfold SparseCore.Cfg.tcSt
  rw [hO]
  iintro ⟨⟨%W, -, HO⟩, Hrest⟩
  isplitl [HO]; · iexists W; iexact HO
  iintro ⟨%W', HO⟩
  isplitl [HO]
  · iexists W'
    isplitr
    · ipureintro
      intro p _
      show (K (F := F)).lev (SparseCore.T d, p.1) p.2 ≤ 8
      rcases p.2 with _ | q
      · exact Nat.zero_le _
      · have := (K (F := F)).lev_some_le (SparseCore.T d, p.1) q
        omega
    iexact HO
  iexact Hrest

/-- @main on device `d`'s TensorCore: its arrays from the launch's contents to `V5`. -/
theorem hmain [∀ e, Nonempty (Elt F e)] (κ : GSem nD τ sig → ℕ) (d : Dev nD) :
    iprop((K (F := F)).ctx EH (P (iT m) (tab m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  have hu : (unscopedBufs d (fun b => m ((d.tc : Thread nD τ).loc b)) : sProp 𝕄) = StableHlo.held (d.tc : Thread nD τ) (ucRefs τ sig) (V0 m d) :=
    Pipeline.unscopedBufs_held d (V0 m d)
  simp only [main, wp_bind, wp_pure]
  iintro ⟨#Hctx, Hst, ⟨Hb, Hu, Hts, -⟩, HG⟩
  ihave #Hlev := (SparseCore.Cfg.ctx_levAts κ) $$ Hctx
  ihave Hu := (Entails.of_eq hu) $$ Hu
  iapply (StableHlo.wp_hlo_within 𝒱 (SparseCore.T d) none Set.univ (op := tIdx) (S := ucRefs τ sig) (V := V0 m d) (Pipeline.sub_ucRefs _ (StableHlo.unary_bufs_sub _ _ _ _ _))) $$ [Hb Hu]
  · isplitl [Hb]; · iexact Hb
    iexact Hu
  iintro ⟨Hb, Hu⟩
  rw [wp_ret]; imodintro
  ihave Hu := (show StableHlo.held (d.tc : Thread nD τ) (ucRefs τ sig) ((tIdx (F := F)).result (V0 m d)) ⊢ _ from call_in m d) $$ Hu
  icases Hu with ⟨Hgo, Hr⟩
  iapply ((K (F := F)).wp_run (D (F := F)) 𝒱 (EH := EH) (P := P (iT m) (tab m)) κ d 0) $$ [-]
  isplitr; · iexact Hctx
  isplitl [Hst]; · iexact Hst
  isplitl [Hgo]; · iexact Hgo
  iintro ⟨Hst, Hdn⟩
  ihave Hu := (call_out m d) $$ [Hdn Hr]
  · isplitl [Hdn] <;> iassumption
  icases Hu with ⟨Hu, Hbars⟩
  iapply (StableHlo.wp_hlo_within 𝒱 (SparseCore.T d) none Set.univ (op := rRows) (S := ucRefs τ sig) (V := V2 m d) (Pipeline.sub_ucRefs _ (StableHlo.reshape_bufs_sub _ _ _ _ _ _))) $$ [Hb Hu]
  · isplitl [Hb]; · iexact Hb
    iexact Hu
  iintro ⟨Hb, Hu⟩
  rw [wp_ret]; imodintro
  iapply (StableHlo.wp_hlo_within 𝒱 (SparseCore.T d) none Set.univ (op := rBias) (S := ucRefs τ sig) (V := (rRows (F := F)).result (V2 m d)) (Pipeline.sub_ucRefs _ (StableHlo.reshape_bufs_sub _ _ _ _ _ _))) $$ [Hb Hu]
  · isplitl [Hb]; · iexact Hb
    iexact Hu
  iintro ⟨Hb, Hu⟩
  rw [wp_ret]; imodintro
  ihave Hst := (show (K (F := F)).tcSt EH d ((0 : Fin 1).val + 1) ⊢ _ from tcSt_one d) $$ Hst
  icases Hst with ⟨HO, Hst⟩
  iapply (region (V3 m) d _) $$ [-]
  isplitl [Hb]; · iexact Hb
  isplitl [Hu]; · iexact Hu
  isplitl [HO]; · iexact HO
  isplitr; · iexact Hlev
  isplitl [HG]; · iexact HG
  iintro ⟨Hb, Hu, HO⟩
  iapply (StableHlo.wp_hlo_within 𝒱 (SparseCore.T d) none Set.univ (op := tOut) (S := ucRefs τ sig) (V := V4 m d) (Pipeline.sub_ucRefs _ (StableHlo.unary_bufs_sub _ _ _ _ _))) $$ [Hb Hu]
  · isplitl [Hb]; · iexact Hb
    iexact Hu
  iintro ⟨Hb, Hu⟩
  rw [wp_ret]; imodintro
  imodintro
  isplitl [Hst HO]
  · iapply Hst; iexact HO
  isplitl [Hu Hbars]
  · isplitl [Hu]; · iexact Hu
    iexact Hbars
  isplitl [Hb] <;> iassumption

/-! ## The machine's run -/

/-- What the end of @main says of the machine: every array at `V5`, the barrier's semaphores at zero. -/
def fq (d : Dev nD) (s' : Phys nD τ sig (Elt F)) : Prop :=
  (∀ b ∈ ucRefs τ sig, s'.mem.mem (d, b) = V5 m d b)
    ∧ ∀ (c : Fin 2) (i : Fin 16), s'.mem.sem (bcell d (coreOf (F := F) c) ((K (F := F)).sub 0 i)) = 0

theorem hfin (d : Dev nD) (s' : Phys nD τ sig (Elt F)) : iprop(FIN m d ∗ SI s') ⊢ (⌜fq m d s'⌝ : sProp 𝕄) := fun x hx =>
  ⟨fun b hb => by
    have h : iprop(FIN m d ∗ SI s') ⊢ (⌜s'.mem.mem (d, b) = V5 m d b⌝ : sProp 𝕄) := by
      refine (sep_mono_left (sep_elim_left.trans (SparseCore.ent (bigSep_elim hb)))).trans ?_
      iintro ⟨H, HSI⟩
      ihave H := (SI_pointsTo_agree (st := s') (ℓ := ((d, b) : Loc nD τ sig)) (I := Finset.univ) (q := fullShare) (f := V5 m d b)) $$ [HSI H]
      · isplitl [HSI] <;> iassumption
      icases H with %h
      ipureintro; exact funext fun i => h i (Finset.mem_univ i)
    exact h x hx,
  fun c i => ((sep_mono_left (sep_elim_right.trans ((SparseCore.ent (bigSep_elim (Finset.mem_univ c))).trans
    (SparseCore.ent (bigSep_elim (Finset.mem_univ i)))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  have hc : c.val < 2 := (Finset.mem_filter.mp hx).2
  have e : c = coreOf (F := F) (⟨c.val, hc⟩ : Fin 2) := Fin.ext rfl
  have h2 := (h d).2 ⟨c.val, hc⟩ i
  rw [← e] at h2
  exact h2

/-- At the end: every array of @main at `V5`, every semaphore at zero. -/
def QC : PUnit × MemSt nD τ sig (Elt F) → Prop := fun r =>
  (∀ (d : Dev nD), ∀ b ∈ ucRefs τ sig, r.2.mem (d, b) = V5 m d b) ∧ r.2.sem = fun _ => 0

/-- The machine's run, where every index is a row of the table. -/
theorem run_main [∀ e, Nonempty (Elt F e)] (hI : ∀ d x, (iT m d x).toNat < 1000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (iT m) (tab m)) (hA := hA m) facts v₀
    (fun q hq => match q with | 0 => nomatch hq)
    (fun q _ => match q with | 0 => tileObl (iT m) (tab m) facts hI)
    (fun q _ => match q with | 0 => vecSplit (tab m) (iT m))
    m ρ main (fun d => G d) (FIN m) (u₀ (F := F)) (hu₀ (iT m) (tab m)) (hmain m ρ) (fq m) (hfin m) (QC m)
    (fun _ h hz => ⟨fun d => (h d).1, hz⟩)

/-! ## What the run leaves of the arguments -/

theorem V1_off (d : Dev nD) {b : DevRef τ sig} (h : b ≠ rf main_v0) : V1 m d b = m (d, b) :=
  (tIdx (F := F)).result_of_not_mem (V0 m d) fun hb => h (Finset.mem_singleton.mp hb)
theorem V2_off (d : Dev nD) {b : DevRef τ sig} (h : b ≠ rf main_v1) : V2 m d b = V1 m d b := Function.update_of_ne h _ _
theorem V3_off (d : Dev nD) {b : DevRef τ sig} (h3 : b ≠ rf main_v3) (h2 : b ≠ rf main_v2) : V3 m d b = V2 m d b :=
  ((rBias (F := F)).result_of_not_mem _ fun hb => h3 (Finset.mem_singleton.mp hb)).trans
    ((rRows (F := F)).result_of_not_mem _ fun hb => h2 (Finset.mem_singleton.mp hb))
theorem V4_off (d : Dev nD) {b : Ref sig .tc} (h : b ≠ main_v4) : V4 m d (rf b) = V3 m d (rf b) :=
  Pipeline.afterRegion_keeps (mmDat (V3 m) d) (V3 m d) launch1.win.arr_inj (fun _ => rfl) b fun w e => by
    fin_cases w
    · rfl
    · rfl
    · rfl
    · exact absurd e.symm h
theorem V5_off (d : Dev nD) {b : DevRef τ sig} (h : b ≠ rf main_v5) : V5 m d b = V4 m d b :=
  (tOut (F := F)).result_of_not_mem (V4 m d) fun hb => h (Finset.mem_singleton.mp hb)

/-- An array that no line of @main writes is as it was. -/
theorem V5_keep (d : Dev nD) (b : Ref sig .tc) (h5 : rf b ≠ rf main_v5) (h4 : b ≠ main_v4) (h3 : rf b ≠ rf main_v3) (h2 : rf b ≠ rf main_v2)
    (h1 : rf b ≠ rf main_v1) (h0 : rf b ≠ rf main_v0) : V5 m d (rf b) = m (d, rf b) :=
  (V5_off m d h5).trans ((V4_off m d h4).trans ((V3_off m d h3 h2).trans ((V2_off m d h1).trans (V1_off m d h0))))

theorem V5_arg0 (d : Dev nD) : V5 m d (rf main_arg0) = m (d, rf main_arg0) :=
  V5_keep m d main_arg0 (by decide) (by decide) (by decide) (by decide) (by decide) (by decide)
theorem V5_arg1 (d : Dev nD) : V5 m d (rf main_arg1) = m (d, rf main_arg1) :=
  V5_keep m d main_arg1 (by decide) (by decide) (by decide) (by decide) (by decide) (by decide)
theorem V5_arg2 (d : Dev nD) : V5 m d (rf main_arg2) = m (d, rf main_arg2) :=
  V5_keep m d main_arg2 (by decide) (by decide) (by decide) (by decide) (by decide) (by decide)
theorem V5_arg3 (d : Dev nD) : V5 m d (rf main_arg3) = m (d, rf main_arg3) :=
  V5_keep m d main_arg3 (by decide) (by decide) (by decide) (by decide) (by decide) (by decide)

/-! ## The contents, one from the next -/

theorem iT_eq (d : Dev nD) : iT m d = transpose S20x1024 [1, 0] (m (d, rf main_arg0)) transposes_S1024x20_S20x1024_1_0 := by
  unfold iT V1
  exact StableHlo.unary_result _ _ _ _ _ _
theorem tab_eq (d : Dev nD) : tab m d = m (d, rf main_arg1) := V1_off m d (by decide)
theorem V3_v2 (d : Dev nD) : V3 m d (rf main_v2) = shapeCast S20x1024x128 (gathered (iT m d) (tab m d)) shapeCasts_S20480x128_S20x1024x128 :=
  ((rBias (F := F)).result_of_not_mem _ fun hb => absurd (Finset.mem_singleton.mp hb) (by decide)).trans
    ((StableHlo.reshape_result _ _ _ _ _ _ _).trans (by
      rw [show V2 m d (main_v1 : DevRef τ sig) = gathered (iT m d) (tab m d) from Function.update_self _ _ _]; rfl))
theorem V3_arg2 (d : Dev nD) : V3 m d (rf main_arg2) = m (d, rf main_arg2) :=
  (V3_off m d (by decide) (by decide)).trans ((V2_off m d (by decide)).trans (V1_off m d (by decide)))
theorem V3_v3 (d : Dev nD) : V3 m d (rf main_v3) = shapeCast S1000x1 (m (d, rf main_arg3)) shapeCasts_S1000_S1000x1 := by
  have h : (rRows (F := F)).result (V2 m d) (rf main_arg3) = m (d, rf main_arg3) :=
    ((rRows (F := F)).result_of_not_mem _ fun hb => absurd (Finset.mem_singleton.mp hb) (by decide)).trans
      ((V2_off m d (by decide)).trans (V1_off m d (by decide)))
  exact (StableHlo.reshape_result _ _ _ _ _ _ _).trans (by rw [← h]; rfl)
theorem V4_v4 (d : Dev nD) : V4 m d (rf main_v4) = (mmDat (V3 m) d).arrAt 3 cfg1.N :=
  Pipeline.afterRegion_arr (mmDat (V3 m) d) (V3 m d) launch1.win.arr_inj 3
theorem V5_v5 (d : Dev nD) : V5 m d (rf main_v5) = transpose S1024x1000 [1, 0] (V4 m d (rf main_v4)) transposes_S1000x1024_S1024x1000_1_0 :=
  StableHlo.unary_result _ _ _ _ _ _

end Main

end Cert.Proof.Gather
-- ==== Proof.InRange.lean ====
/-
  What the precondition says: every index, read as a natural number, is a row of the table.
-/
module

public import proofs.«01_k».proof.Proof.Gen.Pre_in_range
public import Idealize.ShloMosaic.Lib.ReduceAll
public import Idealize.ShloMosaic.Lib.StableHlo.Predicate

@[expose] public section

noncomputable section

namespace Cert.Proof.Gather

open Idealize.ShloMosaic
open Cert.Pre_in_range Cert.Pre_in_range.Gen

/-- A word between 0 and 1000 as signed integers is below 1000 as a natural number. -/
theorem lt_of_signed {w : BitVec 32} (h0 : IntOp.cmpi .sge w 0#32 = 1#1) (h1 : IntOp.cmpi .slt w 1000#32 = 1#1) : w.toNat < 1000 := by
  unfold IntOp.cmpi at h0 h1
  rw [StableHlo.Predicate.ofBool_eq_one_iff] at h0 h1
  simp only [BitVec.sle, BitVec.slt, decide_eq_true_eq] at h0 h1
  have e0 : (0#32 : BitVec 32).toInt = 0 := by decide
  have e1 : (1000#32 : BitVec 32).toInt = 1000 := by decide
  rw [e0] at h0
  rw [e1] at h1
  rw [BitVec.toInt_eq_toNat_cond] at h0 h1
  have := w.isLt
  split at h0 <;> omega

instance : Subsingleton S_.Idx := ⟨fun a b => funext fun i => i.elim0⟩

theorem rows_of_pre {F : FTy → Type} [FloatOps F] (I : IVec S1024x20 32) (E : FVec F S1000x128 .f32) (W : FVec F S1000x2560 .f32) (B : FVec F S1000 .f32)
    (h : Cert.Pre_in_range.fn I E W B = fun _ => 1#1) (x : S1024x20.Idx) : (I x).toNat < 1000 := by
  have h0 := congrFun h (fun a => a.elim0)
  unfold Cert.Pre_in_range.fn at h0
  have h1 := Host.reduce_andi_all _ _ _ _ _ h0 x
  obtain ⟨ha, hb⟩ := IntOp.andi_eq_one.1 h1
  exact lt_of_signed ha hb

end Cert.Proof.Gather
-- ==== Proof.Frames.lean ====
/-
  The two frames: the kernel's at the machine's words and at the ideal values, both from the one run.
-/
module

public import proofs.«01_k».proof.Proof.Main
public import proofs.«01_k».proof.Proof.InRange
public import proofs.«01_k».proof.Proof.Gen.Kernel
public import proofs.«01_k».proof.Defs

@[expose] public section

noncomputable section

namespace Cert.Proof.Gather

open Idealize.ShloMosaic Idealize.ShloMosaic.TcCoe Idealize.SL.Sem
open Cert.KernelIdeal Cert.KernelIdeal.Gen

section
variable {F : FTy → Type} [FloatOps F] (m : (ℓ : Loc nD τ sig) → Buf (Elt F) ℓ)

/-- The indices as the SparseCore call takes them are the argument's, so they too are rows of the table. -/
theorem iT_lt (h : ∀ d x, (m (d, rf main_arg0) x).toNat < 1000) (d : Dev nD) (x : S20x1024.Idx) : (iT m d x).toNat < 1000 := by
  rw [iT_eq]; exact h d _

variable [∀ e, Nonempty (Elt F e)]

/-- The run with the result and the arguments read off it. -/
theorem run_args (h : ∀ d x, (m (d, rf main_arg0) x).toNat < 1000) (ρ : Dev nD → PrngReg) :
    θ_run (Cert.KernelIdeal.defs (F := F)) (Cert.KernelIdeal.threads (F := F)) ⟨m, fun _ => 0, ρ⟩ (fun r =>
      (∀ d : Dev nD, r.2.mem (d, rf main_v5) = V5 m d (rf main_v5)
        ∧ r.2.mem (d, rf main_arg0) = m (d, rf main_arg0) ∧ r.2.mem (d, rf main_arg1) = m (d, rf main_arg1)
        ∧ r.2.mem (d, rf main_arg2) = m (d, rf main_arg2) ∧ r.2.mem (d, rf main_arg3) = m (d, rf main_arg3))
      ∧ r.2.sem = fun _ => 0) :=
  (θ_run _ _ _).mono (fun _ hr => ⟨fun d => ⟨hr.1 d _ (mem_uc main_v5 rfl),
    (hr.1 d _ (mem_uc main_arg0 rfl)).trans (V5_arg0 m d), (hr.1 d _ (mem_uc main_arg1 rfl)).trans (V5_arg1 m d),
    (hr.1 d _ (mem_uc main_arg2 rfl)).trans (V5_arg2 m d), (hr.1 d _ (mem_uc main_arg3 rfl)).trans (V5_arg3 m d)⟩, hr.2⟩)
    (run_main m ρ (iT_lt m h))
end

theorem frame_ideal : Cert.quiescent_KernelIdeal := fun m ρ hp =>
  (θ_run Cert.KernelIdeal.defs _ _).mono (fun _ h => ⟨fun c => (h.1 c).2, h.2⟩)
    (run_args m (fun d => rows_of_pre _ _ _ _ (hp d)) ρ)

/-- The compiled kernel and the one read over the reals are the same program: each body of one is the other's. -/
theorem bodies_eq : Cert.Kernel.defs₀ (F := Bits) = Cert.KernelIdeal.defs₀ (F := Bits) := by
  funext p ℓ a
  match p, ℓ, a with
  | .scVector c s, 0, _ => rfl
  | .tc, 1, (t, s) => rfl
  | .tc, 0, _ => rfl
  | .scScalar _, 0, _ => rfl
  | .scScalar _, 1, _ => rfl
  | .scVector _ _, 1, _ => rfl

/-- So the whole tables agree. -/
theorem table_eq : Cert.Kernel.defs (F := Bits) = Cert.KernelIdeal.defs (F := Bits) :=
  congrArg (fun D => Cert.KernelIdeal.sc.defs (Pipeline.defs Cert.KernelIdeal.pcfgs D)) bodies_eq

theorem frame_kernel : Cert.quiescent_Kernel := fun m ρ hp => by
  have h := run_args (F := Bits) m (fun d => rows_of_pre _ _ _ _ (hp d)) ρ
  rw [← table_eq] at h
  exact (θ_run Cert.Kernel.defs _ _).mono (fun _ h => ⟨fun c => (h.1 c).2, h.2⟩) h

end Cert.Proof.Gather
-- ==== Proof.ValueKer.lean ====
/-
  The kernel's result over the reals, in closed form.

  `rowsTimes I E W B` is the product the kernel computes: at `(b, v)`, the sum over `k` of the table's row at
  `I (b, k / 128)`, column `k % 128`, times `W (v, k)`, and `B v` added. `kernel_value`: the kernel's result array ends
  at `rowsTimes` of its arguments.
-/
module

public import proofs.«01_k».proof.Proof.Main
public import Idealize.ShloMosaic.Lib.MatmulPlain
public import Idealize.ShloMosaic.Lib.Pipeline.ValueKit

@[expose] public section

noncomputable section

namespace Cert.Proof.Gather

open Cert.KernelIdeal Cert.KernelIdeal.Gen

open Idealize.ShloMosaic hiding ix3
open Idealize.ShloMosaic.ValueIdx
open Idealize.ShloMosaic.TcCoe
open Idealize.SL.Sem
open scoped BigOperators

/-- The two spellings of a pair of coordinates are one. -/
theorem pair_eq {a b : ℕ} (x : Fin a) (y : Fin b) : ValueIdx.ix2 x y = ix2 x y := eq_ix2 _ x y rfl rfl

/-- Which of the twenty rows column `k` of the joined rows lies in, -/
def slot (k : Fin 2560) : Fin 20 := ⟨k.val / 128, by have := k.isLt; omega⟩
/-- and where in that row. -/
def lane (k : Fin 2560) : Fin 128 := ⟨k.val % 128, Nat.mod_lt _ (by decide)⟩

/-- The twenty rows that `I` names, side by side, times the transpose of `W`, and `B` added. -/
def rowsTimes (I : S1024x20.Idx → BitVec 32) (E : S1000x128.Idx → EReal) (W : S1000x2560.Idx → EReal) (B : S1000.Idx → EReal) :
    S1024x1000.Idx → EReal := fun z =>
  (∑ k : Fin 2560, E (ix2 (rowOf (I (ix2 (z 0) (slot k)))) (lane k)) * W (ix2 (z 1) k)) + B (ix1 (z 1))

/-! ## The body's block -/

section Body
variable {F : FTy → Type} [FloatOps F]

/-- The joined slabs at an index: the slab the column lies in, at its lane. -/
theorem wide_apply (X : S20x512x128.Idx → Elt F .f32) (b : Fin 512) (k : Fin 2560) : wide X (ix2 b k) = X (ix3 (slot k) b (lane k)) := by
  unfold wide
  refine (concatenate_ofFn_apply (t := S512x2560) (s₁ := S512x128) 1 (fun l : Fin 20 => flat X l) _ rfl 128 rfl (ix2 b k) (slot k) rfl (ix2 b (lane k)) rfl
    (fun a ha => by
      match a with
      | ⟨0, _⟩ => rfl
      | ⟨1, _⟩ => exact absurd rfl ha)).trans ?_
  unfold flat
  rw [shapeCast_apply _ shapeCasts_S1x512x128_S512x128 (ix2 b (lane k)) (ix3 (0 : Fin 1) b (lane k)) (by
    rw [Shape.rowMajor_val_three, Shape.rowMajor_val_two]; simp)]
  unfold slab
  congr 1
  funext a; apply Fin.ext
  match a with
  | ⟨0, _⟩ => simp [slot]; rfl
  | ⟨1, _⟩ => simp
  | ⟨2, _⟩ => simp
end Body

/-- The body's block at an index. -/
theorem tcOut_apply (X : S20x512x128.Idx → EReal) (W : S1000x2560.Idx → EReal) (B : S1000x1.Idx → EReal) (v : Fin 1000) (b : Fin 512) :
    tcOut (F := Ideal) X W B (ix2 v b) = (∑ k : Fin 2560, W (ix2 v k) * X (ix3 (slot k) b (lane k))) + B (ix2 v 0) := by
  unfold tcOut k1_pay2
  show (matmul (DotDims.transposedRhs 1000 2560 512) none W (wide (F := Ideal) X) (constant (F := Ideal) S1000x512 .f32 0x00000000#32) (ix2 v b) : EReal)
    + broadcastTo S1000x512 (shapeCast S1000x1 B shapeCasts_S1000x1_S1000x1) broadcasts_S1000x1_S1000x512 (ix2 v b) = _
  refine congrArg₂ (· + ·) ?_ ?_
  · rw [← pair_eq]
    refine (Ideal.matmul_transposedRhs_apply none W (wide (F := Ideal) X) _ v b).trans ?_
    show Ideal.ofBits .f32 0x00000000#32 + _ = _
    rw [Ideal.ofBits_zero_f32, zero_add]
    exact Finset.sum_congr rfl fun k _ => by rw [pair_eq, pair_eq, wide_apply (F := Ideal)]
  · rw [shapeCast_self]
    exact broadcastTo_apply _ _ _ (ix2 v 0) fun a => by
      match a with
      | ⟨0, _⟩ => rfl
      | ⟨1, _⟩ => rfl

/-! ## The whole array -/

section Whole
variable (m : (ℓ : Loc nD τ sig) → Buf (Elt Ideal) ℓ) (d : Dev nD)

/-- The gathered rows as the region takes them. -/
theorem v2_apply (l : Fin 20) (b : Fin 1024) (e : Fin 128) :
    V3 m d (rf main_v2) (ix3 l b e) = m (d, rf main_arg1) (ix2 (rowOf (m (d, rf main_arg0) (ix2 b l))) e) := by
  have hl := l.isLt; have hb := b.isLt
  rw [V3_v2]
  refine (shapeCast_apply _ _ (ix3 l b e) (ix2 (⟨l.val * 1024 + b.val, by omega⟩ : Fin 20480) e) (by
    rw [Shape.rowMajor_val_three, Shape.rowMajor_val_two]; simp)).trans ?_
  unfold gathered idxAt
  rw [tab_eq, iT_eq]
  have e1 : (⟨(l.val * 1024 + b.val) / 1024 % 20, Nat.mod_lt _ (by decide)⟩ : Fin 20) = l := Fin.ext (by show _ % 20 = _; omega)
  have e2 : (⟨(l.val * 1024 + b.val) % 1024, Nat.mod_lt _ (by decide)⟩ : Fin 1024) = b := Fin.ext (by show _ % 1024 = _; omega)
  show m (d, rf main_arg1) (ix2 (rowOf (transpose S20x1024 [1, 0] (m (d, rf main_arg0)) _
    (ix2 (⟨(l.val * 1024 + b.val) / 1024 % 20, Nat.mod_lt _ (by decide)⟩ : Fin 20) (⟨(l.val * 1024 + b.val) % 1024, Nat.mod_lt _ (by decide)⟩ : Fin 1024)))) e) = _
  rw [e1, e2, transpose_apply [1, 0] _ transposes_S1024x20_S20x1024_1_0 (ix2 l b) (ix2 b l) (fun a => by
    match a with
    | ⟨0, _⟩ => rfl
    | ⟨1, _⟩ => rfl)]

/-- The bias column. -/
theorem v3_apply (v : Fin 1000) : V3 m d (rf main_v3) (ix2 v 0) = m (d, rf main_arg3) (ix1 v) := by
  rw [V3_v3]
  exact shapeCast_apply _ _ (ix2 v 0) (ix1 v) (by rw [Shape.rowMajor_val_one, Shape.rowMajor_val_two]; simp)

/-- The region's result array: the product transposed. -/
def prodT : S1000x1024.Idx → EReal := fun z =>
  rowsTimes (m (d, rf main_arg0)) (m (d, rf main_arg1)) (m (d, rf main_arg2)) (m (d, rf main_arg3)) (ix2 (z 1) (z 0))

/-- Where point `t` works: columns `t * 512` to `t * 512 + 511` of the result. -/
def col (t : Fin grid1.N) (b : Fin 512) : Fin 1024 :=
  ⟨t.val * 512 + b.val, by have h : t.val < 2 := t.isLt; have := b.isLt; omega⟩

theorem index_out : ∀ t : Fin grid1.N, win1_3.index t 0 = 0 ∧ win1_3.index t 1 = t.val := by decide +kernel
theorem index_rows : ∀ t : Fin grid1.N, win1_0.index t 0 = 0 ∧ win1_0.index t 1 = t.val ∧ win1_0.index t 2 = 0 := by decide +kernel
theorem index_weights : ∀ t : Fin grid1.N, win1_1.index t 0 = 0 ∧ win1_1.index t 1 = 0 := by decide +kernel
theorem index_bias : ∀ t : Fin grid1.N, win1_2.index t 0 = 0 ∧ win1_2.index t 1 = 0 := by decide +kernel

theorem out_at (t : Fin grid1.N) (v : Fin 1000) (b : Fin 512) : (win1_3.blk t).view.emb (ix2 v b) = ix2 v (col t b) := by
  refine eq_ix2 _ _ _ ?_ ?_
  · refine (Pipeline.Window.rect_emb_val win1_3 t (ix2 v b) 0).trans ?_
    rw [(index_out t).1]; simp
  · refine (Pipeline.Window.rect_emb_val win1_3 t (ix2 v b) 1).trans ?_
    rw [(index_out t).2]; rfl

theorem rows_at (t : Fin grid1.N) (l : Fin 20) (b : Fin 512) (e : Fin 128) :
    blk (V3 m) d win1_0 t (ix3 l b e) = V3 m d (rf main_v2) (ix3 l (col t b) e) := by
  have h : (win1_0.blk t).view.emb (ix3 l b e) = ix3 l (col t b) e := by
    funext a; apply Fin.ext
    refine (Pipeline.Window.rect_emb_val win1_0 t (ix3 l b e) a).trans ?_
    match a with
    | ⟨0, _⟩ => rw [show win1_0.index t ⟨0, _⟩ = 0 from (index_rows t).1]; simp
    | ⟨1, _⟩ => rw [show win1_0.index t ⟨1, _⟩ = t.val from (index_rows t).2.1]; rfl
    | ⟨2, _⟩ => rw [show win1_0.index t ⟨2, _⟩ = 0 from (index_rows t).2.2]; simp
  show V3 m d (rf main_v2) ((win1_0.blk t).view.emb (ix3 l b e)) = _
  rw [h]

theorem weights_at (t : Fin grid1.N) (v : Fin 1000) (k : Fin 2560) :
    blk (V3 m) d win1_1 t (ix2 v k) = V3 m d (rf main_arg2) (ix2 v k) := by
  have h : (win1_1.blk t).view.emb (ix2 v k) = ix2 v k := by
    refine eq_ix2 _ _ _ ?_ ?_
    · refine (Pipeline.Window.rect_emb_val win1_1 t (ix2 v k) 0).trans ?_
      rw [(index_weights t).1]; simp
    · refine (Pipeline.Window.rect_emb_val win1_1 t (ix2 v k) 1).trans ?_
      rw [(index_weights t).2]; simp
  show V3 m d (rf main_arg2) ((win1_1.blk t).view.emb (ix2 v k)) = _
  rw [h]

theorem bias_at (t : Fin grid1.N) (v : Fin 1000) :
    blk (V3 m) d win1_2 t (ix2 v 0) = V3 m d (rf main_v3) (ix2 v 0) := by
  have h : (win1_2.blk t).view.emb (ix2 v 0) = ix2 v (0 : Fin 1) := by
    refine eq_ix2 _ _ _ ?_ ?_
    · refine (Pipeline.Window.rect_emb_val win1_2 t (ix2 v 0) 0).trans ?_
      rw [(index_bias t).1]; simp
    · refine (Pipeline.Window.rect_emb_val win1_2 t (ix2 v 0) 1).trans ?_
      rw [(index_bias t).2]; simp
  show V3 m d (rf main_v3) ((win1_2.blk t).view.emb (ix2 v 0)) = _
  rw [h]

theorem region_value : (mmDat (V3 m) d).arrAt 3 cfg1.N = prodT m d := by
  refine (mmDat (V3 m) d).arrAt_eq_of_covers 3 _ (by decide +kernel) fun t hf y => ?_
  have e : (mmDat (V3 m) d).after 3 t = outBlk (V3 m) d t := rfl
  obtain ⟨v, b, rfl⟩ : ∃ (v : Fin 1000) (b : Fin 512), y = ix2 v b := ⟨y 0, y 1, eq_ix2 y _ _ rfl rfl⟩
  rw [e]
  unfold outBlk
  blk_simp
  rw [tcOut_apply, out_at]
  unfold prodT rowsTimes
  refine congrArg₂ (· + ·) (Finset.sum_congr rfl fun k _ => ?_) ((bias_at m d t v).trans (v3_apply m d v))
  rw [weights_at, rows_at, v2_apply, V3_arg2]
  exact mul_comm _ _

/-- The kernel's result. -/
theorem kernel_value : V5 m d (rf main_v5)
    = rowsTimes (m (d, rf main_arg0)) (m (d, rf main_arg1)) (m (d, rf main_arg2)) (m (d, rf main_arg3)) := by
  rw [V5_v5, V4_v4, region_value]
  funext z
  refine (transpose_apply [1, 0] _ transposes_S1000x1024_S1024x1000_1_0 z (ix2 (z 1) (z 0)) (fun a => by
    match a with
    | ⟨0, _⟩ => rfl
    | ⟨1, _⟩ => rfl)).trans ?_
  exact congrArg (rowsTimes _ _ _ _) (eq_ix2 z (z 0) (z 1) rfl rfl).symm

end Whole

end Cert.Proof.Gather
-- ==== Proof.ValueRef.lean ====
/-
  The reference's result over the reals, in the same closed form.

  Where every index is a row of the table, the reference's look-up reads that row: a non-negative index is not
  wrapped, none falls outside the table, and holding one to the table's rows changes nothing. `reference_value`: its
  result is `rowsTimes` of the arguments.
-/
module

public import proofs.«01_k».proof.Proof.ValueKer
public import proofs.«01_k».proof.Proof.Gen.ReferenceIdeal.Run
public import Idealize.ShloMosaic.Lib.StackMember
public import Idealize.ShloMosaic.Lib.ReduceAll
public import Idealize.ShloMosaic.Lib.StableHlo.Predicate

@[expose] public section

noncomputable section

namespace Cert.Proof.Gather

open Idealize.ShloMosaic hiding ix3
open Idealize.ShloMosaic.ValueIdx
open Idealize.ShloMosaic.TcCoe
open Idealize.SL.Sem
open Cert.ReferenceIdeal Cert.ReferenceIdeal.Gen
open scoped BigOperators

/-- A word below 1000 is itself as a signed integer. -/
theorem toInt_of_lt {w : BitVec 32} (h : w.toNat < 1000) : w.toInt = w.toNat := by
  rw [BitVec.toInt_eq_toNat_cond]; split <;> omega

/-- A word below 1000 is not negative, -/
theorem not_neg {w : BitVec 32} (h : w.toNat < 1000) : IntOp.cmpi .slt w 0#32 = 0#1 := by
  have e : (0#32 : BitVec 32).toInt = 0 := by decide
  have h0 : ¬ w.toInt < (0#32 : BitVec 32).toInt := by rw [toInt_of_lt h, e]; omega
  show BitVec.ofBool (decide (w.toInt < (0#32 : BitVec 32).toInt)) = 0#1
  rw [decide_eq_false h0]; rfl
/-- and passes both of the look-up's tests. -/
theorem at_least {w : BitVec 32} (h : w.toNat < 1000) : IntOp.cmpi .sge w 0#32 = 1#1 := by
  have e : (0#32 : BitVec 32).toInt = 0 := by decide
  unfold IntOp.cmpi
  simp only [BitVec.sle, toInt_of_lt h, e]
  simp
theorem at_most {w : BitVec 32} (h : w.toNat < 1000) : IntOp.cmpi .sle w 999#32 = 1#1 := by
  have e : (999#32 : BitVec 32).toInt = 999 := by decide
  unfold IntOp.cmpi
  simp only [BitVec.sle, toInt_of_lt h, e]
  have : (w.toNat : ℤ) ≤ 999 := by omega
  simp [this]

/-- The look-up at an index: the table's row that the start index names, held to the table's rows. -/
theorem lookup_apply {α : Type} (E : S1000x128.Idx → α) (J : S1024x20x1.Idx → BitVec 32) (b : Fin 1024) (l : Fin 20) (e : Fin 128) :
    Host.gather gather_S1000x128_S1024x20x1_S1024x20x128_2_0_n_n_0_2_1128 E J (ix3 b l e)
      = E (ix2 ⟨min (J (ix3 b l 0)).toInt.toNat 999, by omega⟩ e) := by
  unfold Host.gather
  congr 1
  funext a
  refine Fin.ext ?_
  show GatherDims.start _ (ix3 b l e) J a + GatherDims.batchCoord _ (ix3 b l e) a + GatherDims.offCoord _ (ix3 b l e) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S1024x20x1_S1024x20x128_2_0_n_n_0_2_1128.startIndexMap from List.mem_singleton.mpr rfl)]
    have hsi : gather_S1000x128_S1024x20x1_S1024x20x128_2_0_n_n_0_2_1128.siIdx (ix3 b l e)
        ⟨List.idxOf (0 : Fin 2) gather_S1000x128_S1024x20x1_S1024x20x128_2_0_n_n_0_2_1128.startIndexMap,
          List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ gather_S1000x128_S1024x20x1_S1024x20x128_2_0_n_n_0_2_1128.startIndexMap from by decide)]
    unfold GatherDims.offCoord
    rw [dif_pos (by decide)]
    simp only [Nat.zero_add, Nat.add_zero]
    rfl

section
variable (I : IVec S1024x20 32) (E : FVec Ideal S1000x128 .f32) (W : FVec Ideal S1000x2560 .f32) (B : FVec Ideal S1000 .f32)
  (hI : ∀ x, (I x).toNat < 1000)

/-- The indices after the wrap of the negative ones, -/
abbrev wrapped : IVec S1024x20 32 :=
  select (cmpi .slt I (broadcastInDim S1024x20 ![] bcast_S_S1024x20 (constantI S_ 32 0#32)))
    (addi I (broadcastInDim S1024x20 ![] bcast_S_S1024x20 (constantI S_ 32 1000#32))) I
/-- as the look-up takes them, -/
abbrev starts : IVec S1024x20x1 32 := broadcastInDim S1024x20x1 ![0, 1] bcast_S1024x20_S1024x20x1_0_1 (wrapped I)
/-- which of them are rows of the table, -/
abbrev inside : IVec S1024x20 1 :=
  Host.reduce IntOp.andi (andi (cmpi .sge (starts I) (broadcastInDim S1024x20x1 ![] bcast_S_S1024x20x1 (constantI S_ 32 0#32)))
    (cmpi .sle (starts I) (broadcastInDim S1024x20x1 ![0, 1, 2] bcast_S1x1x1_S1024x20x1_0_1_2 (broadcastInDim S1x1x1 ![2] bcast_S1_S1x1x1_2 (constantI S1 32 999#32)))))
    (constantI S_ 1 1#1) reducesTo_S1024x20x1_S1024x20_d2 h_S_
/-- the rows looked up, -/
abbrev found : FVec Ideal S1024x20x128 .f32 :=
  select (broadcastInDim S1024x20x128 ![0, 1] bcast_S1024x20_S1024x20x128_0_1 (inside I))
    (Host.gather gather_S1000x128_S1024x20x1_S1024x20x128_2_0_n_n_0_2_1128 E (starts I))
    (broadcastInDim S1024x20x128 ![] bcast_S_S1024x20x128 (constant S_ .f32 0x7FC00000#32))
/-- and the reference's result. -/
abbrev refOut : FVec Ideal S1024x1000 .f32 :=
  addf (Host.dotGeneral dot_S1024x2560_S2560x1000_S1024x1000_1_0_0_1_n_n none (shapeCast S1024x2560 (found I E) shapeCasts_S1024x20x128_S1024x2560)
      (transpose S2560x1000 [1, 0] W transposes_S1000x2560_S2560x1000_1_0))
    (broadcastInDim S1024x1000 ![0, 1] bcast_S1x1000_S1024x1000_0_1 (broadcastInDim S1x1000 ![1] bcast_S1000_S1x1000_1 B))

include hI

theorem wrapped_apply (x : S1024x20.Idx) : wrapped I x = I x := by
  show (if IntOp.cmpi .slt (I x) 0#32 = 1#1 then _ else I x) = I x
  rw [not_neg (hI x)]; rfl

theorem starts_apply (b : Fin 1024) (l : Fin 20) (u : Fin 1) : starts I (ix3 b l u) = I (ix2 b l) :=
  (broadcastInDim_apply _ _ _ (ix3 b l u) (ix2 b l) fun a => by
    match a with
    | ⟨0, _⟩ => rfl
    | ⟨1, _⟩ => rfl).trans (wrapped_apply I hI _)

theorem starts_lt (x : S1024x20x1.Idx) : (starts I x).toNat < 1000 := by
  show (wrapped I _).toNat < 1000
  rw [wrapped_apply I hI]; exact hI _

theorem inside_apply (x : S1024x20.Idx) : inside I x = 1#1 :=
  Host.reduce_andi_one _ _ _ _ _ rfl fun i => IntOp.andi_eq_one.2 ⟨at_least (starts_lt I hI i), at_most (starts_lt I hI i)⟩

theorem found_apply (b : Fin 1024) (l : Fin 20) (e : Fin 128) : found I E (ix3 b l e) = E (ix2 (rowOf (I (ix2 b l))) e) := by
  have hlt := hI (ix2 b l)
  have h : broadcastInDim S1024x20x128 ![0, 1] bcast_S1024x20_S1024x20x128_0_1 (inside I) (ix3 b l e) = 1#1 := by
    generalize hi : inside I = c
    have hc : ∀ x, c x = 1#1 := fun x => hi ▸ inside_apply I hI x
    exact hc _
  unfold found select
  rw [h, select_one, lookup_apply]
  refine congrArg (fun r => E (ix2 r e)) (Fin.ext ?_)
  show min (starts I (ix3 b l 0)).toInt.toNat 999 = (I (ix2 b l)).toNat % 1000
  rw [starts_apply I hI, toInt_of_lt hlt, Int.toNat_natCast, Nat.mod_eq_of_lt hlt]
  omega

/-- The reference's result in closed form. -/
theorem reference_value : refOut I E W B = rowsTimes I E W B := by
  funext z
  obtain ⟨b, v, rfl⟩ : ∃ (b : Fin 1024) (v : Fin 1000), z = ix2 b v := ⟨z 0, z 1, eq_ix2 z _ _ rfl rfl⟩
  show (Host.dotGeneral (DotDims.plain 1024 2560 1000) none (shapeCast S1024x2560 (found I E) shapeCasts_S1024x20x128_S1024x2560)
      (transpose S2560x1000 [1, 0] W transposes_S1000x2560_S2560x1000_1_0) (ix2 b v) : EReal)
    + broadcastInDim S1024x1000 ![0, 1] bcast_S1x1000_S1024x1000_0_1 (broadcastInDim S1x1000 ![1] bcast_S1000_S1x1000_1 B) (ix2 b v) = _
  unfold rowsTimes
  refine congrArg₂ (· + ·) ?_ ?_
  · rw [← pair_eq]
    refine (StackMember.dotGeneral_plain_apply none _ _ b v).trans (Finset.sum_congr rfl fun k _ => ?_)
    rw [pair_eq, pair_eq, pair_eq]
    refine congrArg₂ (· * ·) ?_ ?_
    · refine (shapeCast_apply _ _ (ix2 b k) (ix3 b (slot k) (lane k)) ?_).trans (found_apply I E hI b (slot k) (lane k))
      rw [Shape.rowMajor_val_three, Shape.rowMajor_val_two]
      show (b.val * 20 + k.val / 128) * 128 + k.val % 128 = b.val * 2560 + k.val
      omega
    · exact transpose_apply [1, 0] _ _ (ix2 k v) (ix2 v k) fun a => by
        match a with
        | ⟨0, _⟩ => rfl
        | ⟨1, _⟩ => rfl
  · refine (broadcastInDim_apply _ _ _ (ix2 b v) (ix2 (0 : Fin 1) v) fun a => ?_).trans (broadcastInDim_apply _ _ _ (ix2 (0 : Fin 1) v) (ix1 v) fun a => ?_)
    · match a with
      | ⟨0, _⟩ => rfl
      | ⟨1, _⟩ => rfl
    · match a with
      | ⟨0, _⟩ => rfl

end

end Cert.Proof.Gather
-- ==== Proof.Value.lean ====
/-
  The claims that name the reference: that it runs and leaves its arguments as they were, and that the kernel and it
  compute the same result over the reals.
-/
module

public import proofs.«01_k».proof.Proof.Frames
public import proofs.«01_k».proof.Proof.ValueRef
public import proofs.«01_k».proof.Defs
public import Idealize.ShloMosaic.Lib.Quiescent

@[expose] public section

noncomputable section

namespace Cert.Proof.Gather

open Idealize.ShloMosaic Idealize.ShloMosaic.TcCoe Idealize.SL.Sem

/-- The reference runs, and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the indices are in range. -/
theorem frame_reference_in_range : Cert.quiescent_ReferenceIdeal_pre_in_range := fun m ρ _ => frame_reference m ρ trivial

/-- The reference's run, its result in closed form. -/
theorem reference_run (m : (ℓ : Loc Cert.ReferenceIdeal.nD Cert.ReferenceIdeal.τ Cert.ReferenceIdeal.sig) → Buf (Elt Ideal) ℓ)
    (ρ : Dev Cert.ReferenceIdeal.nD → PrngReg)
    (hI : ∀ (c : Dev Cert.ReferenceIdeal.nD) x, (m ((c.tc : Thread Cert.ReferenceIdeal.nD Cert.ReferenceIdeal.τ).loc Cert.ReferenceIdeal.main_arg0) x).toNat < 1000) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v6)
          = rowsTimes (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c => ⟨(h c).1.trans (reference_value _ _ _ _ (hI c)), (h c).2⟩)
    (Cert.ReferenceIdeal.Value.run (F := Ideal) m ρ)

/-- The kernel and the reference end with the same result. -/
theorem same_result : Cert.algebraic_KernelIdeal_ReferenceIdeal := by
  intro m g m' g' hp hag
  have hI : ∀ (d : Dev Cert.KernelIdeal.nD) x, (m (d, rf Cert.KernelIdeal.main_arg0) x).toNat < 1000 := fun d => rows_of_pre _ _ _ _ (hp d)
  refine ⟨fun c => rowsTimes (m (c, rf Cert.KernelIdeal.main_arg0)) (m (c, rf Cert.KernelIdeal.main_arg1))
    (m (c, rf Cert.KernelIdeal.main_arg2)) (m (c, rf Cert.KernelIdeal.main_arg3)), ?_, ?_⟩
  · exact (θ_run Cert.KernelIdeal.defs _ _).mono (fun _ h c => ⟨(h.1 c).1.trans (kernel_value m c), (h.1 c).2⟩) (run_args m hI g)
  · refine (θ_run Cert.ReferenceIdeal.defs _ _).mono (fun _ h c => ⟨(h c).1.trans ?_, (h c).2⟩)
      (reference_run m' g' fun c x => by rw [(hag c).1]; exact hI c x)
    rw [(hag c).1, (hag c).2.1, (hag c).2.2.1, (hag c).2.2.2]

end Cert.Proof.Gather
-- ==== Proof.lean ====
/-
  The certificate. The run of the two programs is in Proof/Main.lean and what lies under it; the frames are in
  Proof/Frames.lean; the results in closed form are in Proof/ValueKer.lean and Proof/ValueRef.lean; the claims that
  name the reference are in Proof/Value.lean.
-/
module

public import proofs.«01_k».proof.Proof.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Gather.frame_kernel, Gather.frame_ideal, Gather.frame_reference, Gather.frame_reference_in_range, trivial, Gather.same_result⟩

end Cert.Proof

end
